-- ==== Defs.lean ====
def Pre_Kernel [hPre_table_0123_Kernel : Cert.Pre_table_0123_Kernel.Facts] (m : (ℓ : Loc Cert.Kernel.nD Cert.Kernel.τ Cert.Kernel.sig) → Buf (Elt Bits) ℓ) : Prop :=
  ∀ c : Dev Cert.Kernel.nD,
    (Cert.Pre_table_0123_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_0132_Kernel [hPre_table_0132_Kernel : Cert.Pre_table_0132_Kernel.Facts] (m : (ℓ : Loc Cert.Kernel.nD Cert.Kernel.τ Cert.Kernel.sig) → Buf (Elt Bits) ℓ) : Prop :=
  ∀ c : Dev Cert.Kernel.nD,
    (Cert.Pre_table_0132_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_0213_Kernel [hPre_table_0213_Kernel : Cert.Pre_table_0213_Kernel.Facts] (m : (ℓ : Loc Cert.Kernel.nD Cert.Kernel.τ Cert.Kernel.sig) → Buf (Elt Bits) ℓ) : Prop :=
  ∀ c : Dev Cert.Kernel.nD,
    (Cert.Pre_table_0213_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_0231_Kernel [hPre_table_0231_Kernel : Cert.Pre_table_0231_Kernel.Facts] (m : (ℓ : Loc Cert.Kernel.nD Cert.Kernel.τ Cert.Kernel.sig) → Buf (Elt Bits) ℓ) : Prop :=
  ∀ c : Dev Cert.Kernel.nD,
    (Cert.Pre_table_0231_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_0312_Kernel [hPre_table_0312_Kernel : Cert.Pre_table_0312_Kernel.Facts] (m : (ℓ : Loc Cert.Kernel.nD Cert.Kernel.τ Cert.Kernel.sig) → Buf (Elt Bits) ℓ) : Prop :=
  ∀ c : Dev Cert.Kernel.nD,
    (Cert.Pre_table_0312_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_0321_Kernel [hPre_table_0321_Kernel : Cert.Pre_table_0321_Kernel.Facts] (m : (ℓ : Loc Cert.Kernel.nD Cert.Kernel.τ Cert.Kernel.sig) → Buf (Elt Bits) ℓ) : Prop :=
  ∀ c : Dev Cert.Kernel.nD,
    (Cert.Pre_table_0321_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_1023_Kernel [hPre_table_1023_Kernel : Cert.Pre_table_1023_Kernel.Facts] (m : (ℓ : Loc Cert.Kernel.nD Cert.Kernel.τ Cert.Kernel.sig) → Buf (Elt Bits) ℓ) : Prop :=
  ∀ c : Dev Cert.Kernel.nD,
    (Cert.Pre_table_1023_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_1032_Kernel [hPre_table_1032_Kernel : Cert.Pre_table_1032_Kernel.Facts] (m : (ℓ : Loc Cert.Kernel.nD Cert.Kernel.τ Cert.Kernel.sig) → Buf (Elt Bits) ℓ) : Prop :=
  ∀ c : Dev Cert.Kernel.nD,
    (Cert.Pre_table_1032_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_1203_Kernel [hPre_table_1203_Kernel : Cert.Pre_table_1203_Kernel.Facts] (m : (ℓ : Loc Cert.Kernel.nD Cert.Kernel.τ Cert.Kernel.sig) → Buf (Elt Bits) ℓ) : Prop :=
  ∀ c : Dev Cert.Kernel.nD,
    (Cert.Pre_table_1203_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_1230_Kernel [hPre_table_1230_Kernel : Cert.Pre_table_1230_Kernel.Facts] (m : (ℓ : Loc Cert.Kernel.nD Cert.Kernel.τ Cert.Kernel.sig) → Buf (Elt Bits) ℓ) : Prop :=
  ∀ c : Dev Cert.Kernel.nD,
    (Cert.Pre_table_1230_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_1302_Kernel [hPre_table_1302_Kernel : Cert.Pre_table_1302_Kernel.Facts] (m : (ℓ : Loc Cert.Kernel.nD Cert.Kernel.τ Cert.Kernel.sig) → Buf (Elt Bits) ℓ) : Prop :=
  ∀ c : Dev Cert.Kernel.nD,
    (Cert.Pre_table_1302_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_1320_Kernel [hPre_table_1320_Kernel : Cert.Pre_table_1320_Kernel.Facts] (m : (ℓ : Loc Cert.Kernel.nD Cert.Kernel.τ Cert.Kernel.sig) → Buf (Elt Bits) ℓ) : Prop :=
  ∀ c : Dev Cert.Kernel.nD,
    (Cert.Pre_table_1320_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_2013_Kernel [hPre_table_2013_Kernel : Cert.Pre_table_2013_Kernel.Facts] (m : (ℓ : Loc Cert.Kernel.nD Cert.Kernel.τ Cert.Kernel.sig) → Buf (Elt Bits) ℓ) : Prop :=
  ∀ c : Dev Cert.Kernel.nD,
    (Cert.Pre_table_2013_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_2031_Kernel [hPre_table_2031_Kernel : Cert.Pre_table_2031_Kernel.Facts] (m : (ℓ : Loc Cert.Kernel.nD Cert.Kernel.τ Cert.Kernel.sig) → Buf (Elt Bits) ℓ) : Prop :=
  ∀ c : Dev Cert.Kernel.nD,
    (Cert.Pre_table_2031_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_2103_Kernel [hPre_table_2103_Kernel : Cert.Pre_table_2103_Kernel.Facts] (m : (ℓ : Loc Cert.Kernel.nD Cert.Kernel.τ Cert.Kernel.sig) → Buf (Elt Bits) ℓ) : Prop :=
  ∀ c : Dev Cert.Kernel.nD,
    (Cert.Pre_table_2103_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_2130_Kernel [hPre_table_2130_Kernel : Cert.Pre_table_2130_Kernel.Facts] (m : (ℓ : Loc Cert.Kernel.nD Cert.Kernel.τ Cert.Kernel.sig) → Buf (Elt Bits) ℓ) : Prop :=
  ∀ c : Dev Cert.Kernel.nD,
    (Cert.Pre_table_2130_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_2301_Kernel [hPre_table_2301_Kernel : Cert.Pre_table_2301_Kernel.Facts] (m : (ℓ : Loc Cert.Kernel.nD Cert.Kernel.τ Cert.Kernel.sig) → Buf (Elt Bits) ℓ) : Prop :=
  ∀ c : Dev Cert.Kernel.nD,
    (Cert.Pre_table_2301_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_2310_Kernel [hPre_table_2310_Kernel : Cert.Pre_table_2310_Kernel.Facts] (m : (ℓ : Loc Cert.Kernel.nD Cert.Kernel.τ Cert.Kernel.sig) → Buf (Elt Bits) ℓ) : Prop :=
  ∀ c : Dev Cert.Kernel.nD,
    (Cert.Pre_table_2310_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_3012_Kernel [hPre_table_3012_Kernel : Cert.Pre_table_3012_Kernel.Facts] (m : (ℓ : Loc Cert.Kernel.nD Cert.Kernel.τ Cert.Kernel.sig) → Buf (Elt Bits) ℓ) : Prop :=
  ∀ c : Dev Cert.Kernel.nD,
    (Cert.Pre_table_3012_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_3021_Kernel [hPre_table_3021_Kernel : Cert.Pre_table_3021_Kernel.Facts] (m : (ℓ : Loc Cert.Kernel.nD Cert.Kernel.τ Cert.Kernel.sig) → Buf (Elt Bits) ℓ) : Prop :=
  ∀ c : Dev Cert.Kernel.nD,
    (Cert.Pre_table_3021_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_3102_Kernel [hPre_table_3102_Kernel : Cert.Pre_table_3102_Kernel.Facts] (m : (ℓ : Loc Cert.Kernel.nD Cert.Kernel.τ Cert.Kernel.sig) → Buf (Elt Bits) ℓ) : Prop :=
  ∀ c : Dev Cert.Kernel.nD,
    (Cert.Pre_table_3102_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_3120_Kernel [hPre_table_3120_Kernel : Cert.Pre_table_3120_Kernel.Facts] (m : (ℓ : Loc Cert.Kernel.nD Cert.Kernel.τ Cert.Kernel.sig) → Buf (Elt Bits) ℓ) : Prop :=
  ∀ c : Dev Cert.Kernel.nD,
    (Cert.Pre_table_3120_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_3201_Kernel [hPre_table_3201_Kernel : Cert.Pre_table_3201_Kernel.Facts] (m : (ℓ : Loc Cert.Kernel.nD Cert.Kernel.τ Cert.Kernel.sig) → Buf (Elt Bits) ℓ) : Prop :=
  ∀ c : Dev Cert.Kernel.nD,
    (Cert.Pre_table_3201_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_table_3210_Kernel [hPre_table_3210_Kernel : Cert.Pre_table_3210_Kernel.Facts] (m : (ℓ : Loc Cert.Kernel.nD Cert.Kernel.τ Cert.Kernel.sig) → Buf (Elt Bits) ℓ) : Prop :=
  ∀ c : Dev Cert.Kernel.nD,
    (Cert.Pre_table_3210_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_table_0123_Kernel : Cert.Pre_table_0123_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_0123_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_0132_Kernel [hPre_table_0132_Kernel : Cert.Pre_table_0132_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_0132_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_0213_Kernel [hPre_table_0213_Kernel : Cert.Pre_table_0213_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_0213_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_0231_Kernel [hPre_table_0231_Kernel : Cert.Pre_table_0231_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_0231_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_0312_Kernel [hPre_table_0312_Kernel : Cert.Pre_table_0312_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_0312_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_0321_Kernel [hPre_table_0321_Kernel : Cert.Pre_table_0321_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_0321_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_1023_Kernel [hPre_table_1023_Kernel : Cert.Pre_table_1023_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_1023_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_1032_Kernel [hPre_table_1032_Kernel : Cert.Pre_table_1032_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_1032_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_1203_Kernel [hPre_table_1203_Kernel : Cert.Pre_table_1203_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_1203_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_1230_Kernel [hPre_table_1230_Kernel : Cert.Pre_table_1230_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_1230_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_1302_Kernel [hPre_table_1302_Kernel : Cert.Pre_table_1302_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_1302_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_1320_Kernel [hPre_table_1320_Kernel : Cert.Pre_table_1320_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_1320_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_2013_Kernel [hPre_table_2013_Kernel : Cert.Pre_table_2013_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_2013_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_2031_Kernel [hPre_table_2031_Kernel : Cert.Pre_table_2031_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_2031_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_2103_Kernel [hPre_table_2103_Kernel : Cert.Pre_table_2103_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_2103_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_2130_Kernel [hPre_table_2130_Kernel : Cert.Pre_table_2130_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_2130_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_2301_Kernel [hPre_table_2301_Kernel : Cert.Pre_table_2301_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_2301_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_2310_Kernel [hPre_table_2310_Kernel : Cert.Pre_table_2310_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_2310_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_3012_Kernel [hPre_table_3012_Kernel : Cert.Pre_table_3012_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_3012_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_3021_Kernel [hPre_table_3021_Kernel : Cert.Pre_table_3021_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_3021_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_3102_Kernel [hPre_table_3102_Kernel : Cert.Pre_table_3102_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_3102_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_3120_Kernel [hPre_table_3120_Kernel : Cert.Pre_table_3120_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_3120_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_3201_Kernel [hPre_table_3201_Kernel : Cert.Pre_table_3201_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_3201_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_3210_Kernel [hPre_table_3210_Kernel : Cert.Pre_table_3210_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_table_3210_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_table_0123_ReferenceIdeal [hPre_table_0123_ReferenceIdeal : Cert.Pre_table_0123_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_0123_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_0132_ReferenceIdeal [hPre_table_0132_ReferenceIdeal : Cert.Pre_table_0132_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_0132_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_0213_ReferenceIdeal [hPre_table_0213_ReferenceIdeal : Cert.Pre_table_0213_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_0213_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_0231_ReferenceIdeal [hPre_table_0231_ReferenceIdeal : Cert.Pre_table_0231_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_0231_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_0312_ReferenceIdeal [hPre_table_0312_ReferenceIdeal : Cert.Pre_table_0312_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_0312_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_0321_ReferenceIdeal [hPre_table_0321_ReferenceIdeal : Cert.Pre_table_0321_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_0321_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_1023_ReferenceIdeal [hPre_table_1023_ReferenceIdeal : Cert.Pre_table_1023_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_1023_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_1032_ReferenceIdeal [hPre_table_1032_ReferenceIdeal : Cert.Pre_table_1032_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_1032_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_1203_ReferenceIdeal [hPre_table_1203_ReferenceIdeal : Cert.Pre_table_1203_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_1203_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_1230_ReferenceIdeal [hPre_table_1230_ReferenceIdeal : Cert.Pre_table_1230_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_1230_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_1302_ReferenceIdeal [hPre_table_1302_ReferenceIdeal : Cert.Pre_table_1302_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_1302_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_1320_ReferenceIdeal [hPre_table_1320_ReferenceIdeal : Cert.Pre_table_1320_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_1320_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_2013_ReferenceIdeal [hPre_table_2013_ReferenceIdeal : Cert.Pre_table_2013_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_2013_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_2031_ReferenceIdeal [hPre_table_2031_ReferenceIdeal : Cert.Pre_table_2031_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_2031_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_2103_ReferenceIdeal [hPre_table_2103_ReferenceIdeal : Cert.Pre_table_2103_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_2103_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_2130_ReferenceIdeal [hPre_table_2130_ReferenceIdeal : Cert.Pre_table_2130_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_2130_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_2301_ReferenceIdeal [hPre_table_2301_ReferenceIdeal : Cert.Pre_table_2301_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_2301_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_2310_ReferenceIdeal [hPre_table_2310_ReferenceIdeal : Cert.Pre_table_2310_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_2310_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_3012_ReferenceIdeal [hPre_table_3012_ReferenceIdeal : Cert.Pre_table_3012_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_3012_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_3021_ReferenceIdeal [hPre_table_3021_ReferenceIdeal : Cert.Pre_table_3021_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_3021_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_3102_ReferenceIdeal [hPre_table_3102_ReferenceIdeal : Cert.Pre_table_3102_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_3102_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_3120_ReferenceIdeal [hPre_table_3120_ReferenceIdeal : Cert.Pre_table_3120_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_3120_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_3201_ReferenceIdeal [hPre_table_3201_ReferenceIdeal : Cert.Pre_table_3201_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_3201_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_table_3210_ReferenceIdeal [hPre_table_3210_ReferenceIdeal : Cert.Pre_table_3210_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_3210_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_table_0123_Kernel : Cert.Pre_table_0123_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_0132_Kernel [hKernel : Cert.Kernel.Facts] [hPre_table_0132_Kernel : Cert.Pre_table_0132_Kernel.Facts] : Prop :=
  ∀ (m : (ℓ : Loc Cert.Kernel.nD Cert.Kernel.τ Cert.Kernel.sig) → Buf (Elt Bits) ℓ) (g : Dev Cert.Kernel.nD → PrngReg), Pre_Kernel_table_0132_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_0213_Kernel [hKernel : Cert.Kernel.Facts] [hPre_table_0213_Kernel : Cert.Pre_table_0213_Kernel.Facts] : Prop :=
  ∀ (m : (ℓ : Loc Cert.Kernel.nD Cert.Kernel.τ Cert.Kernel.sig) → Buf (Elt Bits) ℓ) (g : Dev Cert.Kernel.nD → PrngReg), Pre_Kernel_table_0213_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_0231_Kernel [hKernel : Cert.Kernel.Facts] [hPre_table_0231_Kernel : Cert.Pre_table_0231_Kernel.Facts] : Prop :=
  ∀ (m : (ℓ : Loc Cert.Kernel.nD Cert.Kernel.τ Cert.Kernel.sig) → Buf (Elt Bits) ℓ) (g : Dev Cert.Kernel.nD → PrngReg), Pre_Kernel_table_0231_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_0312_Kernel [hKernel : Cert.Kernel.Facts] [hPre_table_0312_Kernel : Cert.Pre_table_0312_Kernel.Facts] : Prop :=
  ∀ (m : (ℓ : Loc Cert.Kernel.nD Cert.Kernel.τ Cert.Kernel.sig) → Buf (Elt Bits) ℓ) (g : Dev Cert.Kernel.nD → PrngReg), Pre_Kernel_table_0312_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_0321_Kernel [hKernel : Cert.Kernel.Facts] [hPre_table_0321_Kernel : Cert.Pre_table_0321_Kernel.Facts] : Prop :=
  ∀ (m : (ℓ : Loc Cert.Kernel.nD Cert.Kernel.τ Cert.Kernel.sig) → Buf (Elt Bits) ℓ) (g : Dev Cert.Kernel.nD → PrngReg), Pre_Kernel_table_0321_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_1023_Kernel [hKernel : Cert.Kernel.Facts] [hPre_table_1023_Kernel : Cert.Pre_table_1023_Kernel.Facts] : Prop :=
  ∀ (m : (ℓ : Loc Cert.Kernel.nD Cert.Kernel.τ Cert.Kernel.sig) → Buf (Elt Bits) ℓ) (g : Dev Cert.Kernel.nD → PrngReg), Pre_Kernel_table_1023_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_1032_Kernel [hKernel : Cert.Kernel.Facts] [hPre_table_1032_Kernel : Cert.Pre_table_1032_Kernel.Facts] : Prop :=
  ∀ (m : (ℓ : Loc Cert.Kernel.nD Cert.Kernel.τ Cert.Kernel.sig) → Buf (Elt Bits) ℓ) (g : Dev Cert.Kernel.nD → PrngReg), Pre_Kernel_table_1032_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_1203_Kernel [hKernel : Cert.Kernel.Facts] [hPre_table_1203_Kernel : Cert.Pre_table_1203_Kernel.Facts] : Prop :=
  ∀ (m : (ℓ : Loc Cert.Kernel.nD Cert.Kernel.τ Cert.Kernel.sig) → Buf (Elt Bits) ℓ) (g : Dev Cert.Kernel.nD → PrngReg), Pre_Kernel_table_1203_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_1230_Kernel [hKernel : Cert.Kernel.Facts] [hPre_table_1230_Kernel : Cert.Pre_table_1230_Kernel.Facts] : Prop :=
  ∀ (m : (ℓ : Loc Cert.Kernel.nD Cert.Kernel.τ Cert.Kernel.sig) → Buf (Elt Bits) ℓ) (g : Dev Cert.Kernel.nD → PrngReg), Pre_Kernel_table_1230_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_1302_Kernel [hKernel : Cert.Kernel.Facts] [hPre_table_1302_Kernel : Cert.Pre_table_1302_Kernel.Facts] : Prop :=
  ∀ (m : (ℓ : Loc Cert.Kernel.nD Cert.Kernel.τ Cert.Kernel.sig) → Buf (Elt Bits) ℓ) (g : Dev Cert.Kernel.nD → PrngReg), Pre_Kernel_table_1302_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_1320_Kernel [hKernel : Cert.Kernel.Facts] [hPre_table_1320_Kernel : Cert.Pre_table_1320_Kernel.Facts] : Prop :=
  ∀ (m : (ℓ : Loc Cert.Kernel.nD Cert.Kernel.τ Cert.Kernel.sig) → Buf (Elt Bits) ℓ) (g : Dev Cert.Kernel.nD → PrngReg), Pre_Kernel_table_1320_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_2013_Kernel [hKernel : Cert.Kernel.Facts] [hPre_table_2013_Kernel : Cert.Pre_table_2013_Kernel.Facts] : Prop :=
  ∀ (m : (ℓ : Loc Cert.Kernel.nD Cert.Kernel.τ Cert.Kernel.sig) → Buf (Elt Bits) ℓ) (g : Dev Cert.Kernel.nD → PrngReg), Pre_Kernel_table_2013_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_2031_Kernel [hKernel : Cert.Kernel.Facts] [hPre_table_2031_Kernel : Cert.Pre_table_2031_Kernel.Facts] : Prop :=
  ∀ (m : (ℓ : Loc Cert.Kernel.nD Cert.Kernel.τ Cert.Kernel.sig) → Buf (Elt Bits) ℓ) (g : Dev Cert.Kernel.nD → PrngReg), Pre_Kernel_table_2031_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_2103_Kernel [hKernel : Cert.Kernel.Facts] [hPre_table_2103_Kernel : Cert.Pre_table_2103_Kernel.Facts] : Prop :=
  ∀ (m : (ℓ : Loc Cert.Kernel.nD Cert.Kernel.τ Cert.Kernel.sig) → Buf (Elt Bits) ℓ) (g : Dev Cert.Kernel.nD → PrngReg), Pre_Kernel_table_2103_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_2130_Kernel [hKernel : Cert.Kernel.Facts] [hPre_table_2130_Kernel : Cert.Pre_table_2130_Kernel.Facts] : Prop :=
  ∀ (m : (ℓ : Loc Cert.Kernel.nD Cert.Kernel.τ Cert.Kernel.sig) → Buf (Elt Bits) ℓ) (g : Dev Cert.Kernel.nD → PrngReg), Pre_Kernel_table_2130_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_2301_Kernel [hKernel : Cert.Kernel.Facts] [hPre_table_2301_Kernel : Cert.Pre_table_2301_Kernel.Facts] : Prop :=
  ∀ (m : (ℓ : Loc Cert.Kernel.nD Cert.Kernel.τ Cert.Kernel.sig) → Buf (Elt Bits) ℓ) (g : Dev Cert.Kernel.nD → PrngReg), Pre_Kernel_table_2301_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_2310_Kernel [hKernel : Cert.Kernel.Facts] [hPre_table_2310_Kernel : Cert.Pre_table_2310_Kernel.Facts] : Prop :=
  ∀ (m : (ℓ : Loc Cert.Kernel.nD Cert.Kernel.τ Cert.Kernel.sig) → Buf (Elt Bits) ℓ) (g : Dev Cert.Kernel.nD → PrngReg), Pre_Kernel_table_2310_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_3012_Kernel [hKernel : Cert.Kernel.Facts] [hPre_table_3012_Kernel : Cert.Pre_table_3012_Kernel.Facts] : Prop :=
  ∀ (m : (ℓ : Loc Cert.Kernel.nD Cert.Kernel.τ Cert.Kernel.sig) → Buf (Elt Bits) ℓ) (g : Dev Cert.Kernel.nD → PrngReg), Pre_Kernel_table_3012_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_3021_Kernel [hKernel : Cert.Kernel.Facts] [hPre_table_3021_Kernel : Cert.Pre_table_3021_Kernel.Facts] : Prop :=
  ∀ (m : (ℓ : Loc Cert.Kernel.nD Cert.Kernel.τ Cert.Kernel.sig) → Buf (Elt Bits) ℓ) (g : Dev Cert.Kernel.nD → PrngReg), Pre_Kernel_table_3021_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_3102_Kernel [hKernel : Cert.Kernel.Facts] [hPre_table_3102_Kernel : Cert.Pre_table_3102_Kernel.Facts] : Prop :=
  ∀ (m : (ℓ : Loc Cert.Kernel.nD Cert.Kernel.τ Cert.Kernel.sig) → Buf (Elt Bits) ℓ) (g : Dev Cert.Kernel.nD → PrngReg), Pre_Kernel_table_3102_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_3120_Kernel [hKernel : Cert.Kernel.Facts] [hPre_table_3120_Kernel : Cert.Pre_table_3120_Kernel.Facts] : Prop :=
  ∀ (m : (ℓ : Loc Cert.Kernel.nD Cert.Kernel.τ Cert.Kernel.sig) → Buf (Elt Bits) ℓ) (g : Dev Cert.Kernel.nD → PrngReg), Pre_Kernel_table_3120_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_3201_Kernel [hKernel : Cert.Kernel.Facts] [hPre_table_3201_Kernel : Cert.Pre_table_3201_Kernel.Facts] : Prop :=
  ∀ (m : (ℓ : Loc Cert.Kernel.nD Cert.Kernel.τ Cert.Kernel.sig) → Buf (Elt Bits) ℓ) (g : Dev Cert.Kernel.nD → PrngReg), Pre_Kernel_table_3201_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_table_3210_Kernel [hKernel : Cert.Kernel.Facts] [hPre_table_3210_Kernel : Cert.Pre_table_3210_Kernel.Facts] : Prop :=
  ∀ (m : (ℓ : Loc Cert.Kernel.nD Cert.Kernel.τ Cert.Kernel.sig) → Buf (Elt Bits) ℓ) (g : Dev Cert.Kernel.nD → PrngReg), Pre_Kernel_table_3210_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_table_0123_Kernel : Cert.Pre_table_0123_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_0132_Kernel [hKernelIdeal : Cert.KernelIdeal.Facts] [hPre_table_0132_Kernel : Cert.Pre_table_0132_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_0132_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_0213_Kernel [hKernelIdeal : Cert.KernelIdeal.Facts] [hPre_table_0213_Kernel : Cert.Pre_table_0213_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_0213_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_0231_Kernel [hKernelIdeal : Cert.KernelIdeal.Facts] [hPre_table_0231_Kernel : Cert.Pre_table_0231_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_0231_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_0312_Kernel [hKernelIdeal : Cert.KernelIdeal.Facts] [hPre_table_0312_Kernel : Cert.Pre_table_0312_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_0312_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_0321_Kernel [hKernelIdeal : Cert.KernelIdeal.Facts] [hPre_table_0321_Kernel : Cert.Pre_table_0321_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_0321_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_1023_Kernel [hKernelIdeal : Cert.KernelIdeal.Facts] [hPre_table_1023_Kernel : Cert.Pre_table_1023_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_1023_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_1032_Kernel [hKernelIdeal : Cert.KernelIdeal.Facts] [hPre_table_1032_Kernel : Cert.Pre_table_1032_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_1032_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_1203_Kernel [hKernelIdeal : Cert.KernelIdeal.Facts] [hPre_table_1203_Kernel : Cert.Pre_table_1203_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_1203_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_1230_Kernel [hKernelIdeal : Cert.KernelIdeal.Facts] [hPre_table_1230_Kernel : Cert.Pre_table_1230_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_1230_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_1302_Kernel [hKernelIdeal : Cert.KernelIdeal.Facts] [hPre_table_1302_Kernel : Cert.Pre_table_1302_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_1302_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_1320_Kernel [hKernelIdeal : Cert.KernelIdeal.Facts] [hPre_table_1320_Kernel : Cert.Pre_table_1320_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_1320_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_2013_Kernel [hKernelIdeal : Cert.KernelIdeal.Facts] [hPre_table_2013_Kernel : Cert.Pre_table_2013_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_2013_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_2031_Kernel [hKernelIdeal : Cert.KernelIdeal.Facts] [hPre_table_2031_Kernel : Cert.Pre_table_2031_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_2031_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_2103_Kernel [hKernelIdeal : Cert.KernelIdeal.Facts] [hPre_table_2103_Kernel : Cert.Pre_table_2103_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_2103_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_2130_Kernel [hKernelIdeal : Cert.KernelIdeal.Facts] [hPre_table_2130_Kernel : Cert.Pre_table_2130_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_2130_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_2301_Kernel [hKernelIdeal : Cert.KernelIdeal.Facts] [hPre_table_2301_Kernel : Cert.Pre_table_2301_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_2301_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_2310_Kernel [hKernelIdeal : Cert.KernelIdeal.Facts] [hPre_table_2310_Kernel : Cert.Pre_table_2310_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_2310_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_3012_Kernel [hKernelIdeal : Cert.KernelIdeal.Facts] [hPre_table_3012_Kernel : Cert.Pre_table_3012_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_3012_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_3021_Kernel [hKernelIdeal : Cert.KernelIdeal.Facts] [hPre_table_3021_Kernel : Cert.Pre_table_3021_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_3021_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_3102_Kernel [hKernelIdeal : Cert.KernelIdeal.Facts] [hPre_table_3102_Kernel : Cert.Pre_table_3102_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_3102_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_3120_Kernel [hKernelIdeal : Cert.KernelIdeal.Facts] [hPre_table_3120_Kernel : Cert.Pre_table_3120_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_3120_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_3201_Kernel [hKernelIdeal : Cert.KernelIdeal.Facts] [hPre_table_3201_Kernel : Cert.Pre_table_3201_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_3201_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_3210_Kernel [hKernelIdeal : Cert.KernelIdeal.Facts] [hPre_table_3210_Kernel : Cert.Pre_table_3210_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_3210_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_0123_ReferenceIdeal [hReferenceIdeal : Cert.ReferenceIdeal.Facts] [hPre_table_0123_ReferenceIdeal : Cert.Pre_table_0123_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_0123_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_0132_ReferenceIdeal [hReferenceIdeal : Cert.ReferenceIdeal.Facts] [hPre_table_0132_ReferenceIdeal : Cert.Pre_table_0132_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_0132_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_0213_ReferenceIdeal [hReferenceIdeal : Cert.ReferenceIdeal.Facts] [hPre_table_0213_ReferenceIdeal : Cert.Pre_table_0213_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_0213_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_0231_ReferenceIdeal [hReferenceIdeal : Cert.ReferenceIdeal.Facts] [hPre_table_0231_ReferenceIdeal : Cert.Pre_table_0231_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_0231_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_0312_ReferenceIdeal [hReferenceIdeal : Cert.ReferenceIdeal.Facts] [hPre_table_0312_ReferenceIdeal : Cert.Pre_table_0312_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_0312_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_0321_ReferenceIdeal [hReferenceIdeal : Cert.ReferenceIdeal.Facts] [hPre_table_0321_ReferenceIdeal : Cert.Pre_table_0321_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_0321_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_1023_ReferenceIdeal [hReferenceIdeal : Cert.ReferenceIdeal.Facts] [hPre_table_1023_ReferenceIdeal : Cert.Pre_table_1023_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_1023_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_1032_ReferenceIdeal [hReferenceIdeal : Cert.ReferenceIdeal.Facts] [hPre_table_1032_ReferenceIdeal : Cert.Pre_table_1032_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_1032_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_1203_ReferenceIdeal [hReferenceIdeal : Cert.ReferenceIdeal.Facts] [hPre_table_1203_ReferenceIdeal : Cert.Pre_table_1203_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_1203_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_1230_ReferenceIdeal [hReferenceIdeal : Cert.ReferenceIdeal.Facts] [hPre_table_1230_ReferenceIdeal : Cert.Pre_table_1230_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_1230_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_1302_ReferenceIdeal [hReferenceIdeal : Cert.ReferenceIdeal.Facts] [hPre_table_1302_ReferenceIdeal : Cert.Pre_table_1302_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_1302_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_1320_ReferenceIdeal [hReferenceIdeal : Cert.ReferenceIdeal.Facts] [hPre_table_1320_ReferenceIdeal : Cert.Pre_table_1320_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_1320_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_2013_ReferenceIdeal [hReferenceIdeal : Cert.ReferenceIdeal.Facts] [hPre_table_2013_ReferenceIdeal : Cert.Pre_table_2013_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_2013_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_2031_ReferenceIdeal [hReferenceIdeal : Cert.ReferenceIdeal.Facts] [hPre_table_2031_ReferenceIdeal : Cert.Pre_table_2031_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_2031_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_2103_ReferenceIdeal [hReferenceIdeal : Cert.ReferenceIdeal.Facts] [hPre_table_2103_ReferenceIdeal : Cert.Pre_table_2103_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_2103_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_2130_ReferenceIdeal [hReferenceIdeal : Cert.ReferenceIdeal.Facts] [hPre_table_2130_ReferenceIdeal : Cert.Pre_table_2130_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_2130_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_2301_ReferenceIdeal [hReferenceIdeal : Cert.ReferenceIdeal.Facts] [hPre_table_2301_ReferenceIdeal : Cert.Pre_table_2301_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_2301_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_2310_ReferenceIdeal [hReferenceIdeal : Cert.ReferenceIdeal.Facts] [hPre_table_2310_ReferenceIdeal : Cert.Pre_table_2310_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_2310_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_3012_ReferenceIdeal [hReferenceIdeal : Cert.ReferenceIdeal.Facts] [hPre_table_3012_ReferenceIdeal : Cert.Pre_table_3012_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_3012_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_3021_ReferenceIdeal [hReferenceIdeal : Cert.ReferenceIdeal.Facts] [hPre_table_3021_ReferenceIdeal : Cert.Pre_table_3021_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_3021_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_3102_ReferenceIdeal [hReferenceIdeal : Cert.ReferenceIdeal.Facts] [hPre_table_3102_ReferenceIdeal : Cert.Pre_table_3102_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_3102_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_3120_ReferenceIdeal [hReferenceIdeal : Cert.ReferenceIdeal.Facts] [hPre_table_3120_ReferenceIdeal : Cert.Pre_table_3120_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_3120_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_3201_ReferenceIdeal [hReferenceIdeal : Cert.ReferenceIdeal.Facts] [hPre_table_3201_ReferenceIdeal : Cert.Pre_table_3201_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_3201_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_3210_ReferenceIdeal [hReferenceIdeal : Cert.ReferenceIdeal.Facts] [hPre_table_3210_ReferenceIdeal : Cert.Pre_table_3210_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_3210_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_table_0123_Kernel : Cert.Pre_table_0123_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_0132_Kernel [hKernelIdeal : Cert.KernelIdeal.Facts] [hReferenceIdeal : Cert.ReferenceIdeal.Facts] [hPre_table_0132_Kernel : Cert.Pre_table_0132_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_0132_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_0213_Kernel [hKernelIdeal : Cert.KernelIdeal.Facts] [hReferenceIdeal : Cert.ReferenceIdeal.Facts] [hPre_table_0213_Kernel : Cert.Pre_table_0213_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_0213_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_0231_Kernel [hKernelIdeal : Cert.KernelIdeal.Facts] [hReferenceIdeal : Cert.ReferenceIdeal.Facts] [hPre_table_0231_Kernel : Cert.Pre_table_0231_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_0231_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_0312_Kernel [hKernelIdeal : Cert.KernelIdeal.Facts] [hReferenceIdeal : Cert.ReferenceIdeal.Facts] [hPre_table_0312_Kernel : Cert.Pre_table_0312_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_0312_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_0321_Kernel [hKernelIdeal : Cert.KernelIdeal.Facts] [hReferenceIdeal : Cert.ReferenceIdeal.Facts] [hPre_table_0321_Kernel : Cert.Pre_table_0321_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_0321_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_1023_Kernel [hKernelIdeal : Cert.KernelIdeal.Facts] [hReferenceIdeal : Cert.ReferenceIdeal.Facts] [hPre_table_1023_Kernel : Cert.Pre_table_1023_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_1023_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_1032_Kernel [hKernelIdeal : Cert.KernelIdeal.Facts] [hReferenceIdeal : Cert.ReferenceIdeal.Facts] [hPre_table_1032_Kernel : Cert.Pre_table_1032_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_1032_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_1203_Kernel [hKernelIdeal : Cert.KernelIdeal.Facts] [hReferenceIdeal : Cert.ReferenceIdeal.Facts] [hPre_table_1203_Kernel : Cert.Pre_table_1203_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_1203_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_1230_Kernel [hKernelIdeal : Cert.KernelIdeal.Facts] [hReferenceIdeal : Cert.ReferenceIdeal.Facts] [hPre_table_1230_Kernel : Cert.Pre_table_1230_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_1230_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_1302_Kernel [hKernelIdeal : Cert.KernelIdeal.Facts] [hReferenceIdeal : Cert.ReferenceIdeal.Facts] [hPre_table_1302_Kernel : Cert.Pre_table_1302_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_1302_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_1320_Kernel [hKernelIdeal : Cert.KernelIdeal.Facts] [hReferenceIdeal : Cert.ReferenceIdeal.Facts] [hPre_table_1320_Kernel : Cert.Pre_table_1320_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_1320_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_2013_Kernel [hKernelIdeal : Cert.KernelIdeal.Facts] [hReferenceIdeal : Cert.ReferenceIdeal.Facts] [hPre_table_2013_Kernel : Cert.Pre_table_2013_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_2013_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_2031_Kernel [hKernelIdeal : Cert.KernelIdeal.Facts] [hReferenceIdeal : Cert.ReferenceIdeal.Facts] [hPre_table_2031_Kernel : Cert.Pre_table_2031_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_2031_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_2103_Kernel [hKernelIdeal : Cert.KernelIdeal.Facts] [hReferenceIdeal : Cert.ReferenceIdeal.Facts] [hPre_table_2103_Kernel : Cert.Pre_table_2103_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_2103_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_2130_Kernel [hKernelIdeal : Cert.KernelIdeal.Facts] [hReferenceIdeal : Cert.ReferenceIdeal.Facts] [hPre_table_2130_Kernel : Cert.Pre_table_2130_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_2130_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_2301_Kernel [hKernelIdeal : Cert.KernelIdeal.Facts] [hReferenceIdeal : Cert.ReferenceIdeal.Facts] [hPre_table_2301_Kernel : Cert.Pre_table_2301_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_2301_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_2310_Kernel [hKernelIdeal : Cert.KernelIdeal.Facts] [hReferenceIdeal : Cert.ReferenceIdeal.Facts] [hPre_table_2310_Kernel : Cert.Pre_table_2310_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_2310_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_3012_Kernel [hKernelIdeal : Cert.KernelIdeal.Facts] [hReferenceIdeal : Cert.ReferenceIdeal.Facts] [hPre_table_3012_Kernel : Cert.Pre_table_3012_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_3012_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_3021_Kernel [hKernelIdeal : Cert.KernelIdeal.Facts] [hReferenceIdeal : Cert.ReferenceIdeal.Facts] [hPre_table_3021_Kernel : Cert.Pre_table_3021_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_3021_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_3102_Kernel [hKernelIdeal : Cert.KernelIdeal.Facts] [hReferenceIdeal : Cert.ReferenceIdeal.Facts] [hPre_table_3102_Kernel : Cert.Pre_table_3102_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_3102_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_3120_Kernel [hKernelIdeal : Cert.KernelIdeal.Facts] [hReferenceIdeal : Cert.ReferenceIdeal.Facts] [hPre_table_3120_Kernel : Cert.Pre_table_3120_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_3120_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_3201_Kernel [hKernelIdeal : Cert.KernelIdeal.Facts] [hReferenceIdeal : Cert.ReferenceIdeal.Facts] [hPre_table_3201_Kernel : Cert.Pre_table_3201_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_3201_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_table_3210_Kernel [hKernelIdeal : Cert.KernelIdeal.Facts] [hReferenceIdeal : Cert.ReferenceIdeal.Facts] [hPre_table_3210_Kernel : Cert.Pre_table_3210_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_3210_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_table_0123_Kernel : Cert.Pre_table_0123_Kernel.Facts) (hPre_table_0132_Kernel : Cert.Pre_table_0132_Kernel.Facts) (hPre_table_0213_Kernel : Cert.Pre_table_0213_Kernel.Facts) (hPre_table_0231_Kernel : Cert.Pre_table_0231_Kernel.Facts) (hPre_table_0312_Kernel : Cert.Pre_table_0312_Kernel.Facts) (hPre_table_0321_Kernel : Cert.Pre_table_0321_Kernel.Facts) (hPre_table_1023_Kernel : Cert.Pre_table_1023_Kernel.Facts) (hPre_table_1032_Kernel : Cert.Pre_table_1032_Kernel.Facts) (hPre_table_1203_Kernel : Cert.Pre_table_1203_Kernel.Facts) (hPre_table_1230_Kernel : Cert.Pre_table_1230_Kernel.Facts) (hPre_table_1302_Kernel : Cert.Pre_table_1302_Kernel.Facts) (hPre_table_1320_Kernel : Cert.Pre_table_1320_Kernel.Facts) (hPre_table_2013_Kernel : Cert.Pre_table_2013_Kernel.Facts) (hPre_table_2031_Kernel : Cert.Pre_table_2031_Kernel.Facts) (hPre_table_2103_Kernel : Cert.Pre_table_2103_Kernel.Facts) (hPre_table_2130_Kernel : Cert.Pre_table_2130_Kernel.Facts) (hPre_table_2301_Kernel : Cert.Pre_table_2301_Kernel.Facts) (hPre_table_2310_Kernel : Cert.Pre_table_2310_Kernel.Facts) (hPre_table_3012_Kernel : Cert.Pre_table_3012_Kernel.Facts) (hPre_table_3021_Kernel : Cert.Pre_table_3021_Kernel.Facts) (hPre_table_3102_Kernel : Cert.Pre_table_3102_Kernel.Facts) (hPre_table_3120_Kernel : Cert.Pre_table_3120_Kernel.Facts) (hPre_table_3201_Kernel : Cert.Pre_table_3201_Kernel.Facts) (hPre_table_3210_Kernel : Cert.Pre_table_3210_Kernel.Facts) (hPre_table_0123_ReferenceIdeal : Cert.Pre_table_0123_ReferenceIdeal.Facts) (hPre_table_0132_ReferenceIdeal : Cert.Pre_table_0132_ReferenceIdeal.Facts) (hPre_table_0213_ReferenceIdeal : Cert.Pre_table_0213_ReferenceIdeal.Facts) (hPre_table_0231_ReferenceIdeal : Cert.Pre_table_0231_ReferenceIdeal.Facts) (hPre_table_0312_ReferenceIdeal : Cert.Pre_table_0312_ReferenceIdeal.Facts) (hPre_table_0321_ReferenceIdeal : Cert.Pre_table_0321_ReferenceIdeal.Facts) (hPre_table_1023_ReferenceIdeal : Cert.Pre_table_1023_ReferenceIdeal.Facts) (hPre_table_1032_ReferenceIdeal : Cert.Pre_table_1032_ReferenceIdeal.Facts) (hPre_table_1203_ReferenceIdeal : Cert.Pre_table_1203_ReferenceIdeal.Facts) (hPre_table_1230_ReferenceIdeal : Cert.Pre_table_1230_ReferenceIdeal.Facts) (hPre_table_1302_ReferenceIdeal : Cert.Pre_table_1302_ReferenceIdeal.Facts) (hPre_table_1320_ReferenceIdeal : Cert.Pre_table_1320_ReferenceIdeal.Facts) (hPre_table_2013_ReferenceIdeal : Cert.Pre_table_2013_ReferenceIdeal.Facts) (hPre_table_2031_ReferenceIdeal : Cert.Pre_table_2031_ReferenceIdeal.Facts) (hPre_table_2103_ReferenceIdeal : Cert.Pre_table_2103_ReferenceIdeal.Facts) (hPre_table_2130_ReferenceIdeal : Cert.Pre_table_2130_ReferenceIdeal.Facts) (hPre_table_2301_ReferenceIdeal : Cert.Pre_table_2301_ReferenceIdeal.Facts) (hPre_table_2310_ReferenceIdeal : Cert.Pre_table_2310_ReferenceIdeal.Facts) (hPre_table_3012_ReferenceIdeal : Cert.Pre_table_3012_ReferenceIdeal.Facts) (hPre_table_3021_ReferenceIdeal : Cert.Pre_table_3021_ReferenceIdeal.Facts) (hPre_table_3102_ReferenceIdeal : Cert.Pre_table_3102_ReferenceIdeal.Facts) (hPre_table_3120_ReferenceIdeal : Cert.Pre_table_3120_ReferenceIdeal.Facts) (hPre_table_3201_ReferenceIdeal : Cert.Pre_table_3201_ReferenceIdeal.Facts) (hPre_table_3210_ReferenceIdeal : Cert.Pre_table_3210_ReferenceIdeal.Facts),
    quiescent_Kernel (hKernel := hKernel) (hPre_table_0123_Kernel := hPre_table_0123_Kernel)
    ∧ quiescent_Kernel_pre_table_0132_Kernel (hKernel := hKernel) (hPre_table_0132_Kernel := hPre_table_0132_Kernel)
    ∧ quiescent_Kernel_pre_table_0213_Kernel (hKernel := hKernel) (hPre_table_0213_Kernel := hPre_table_0213_Kernel)
    ∧ quiescent_Kernel_pre_table_0231_Kernel (hKernel := hKernel) (hPre_table_0231_Kernel := hPre_table_0231_Kernel)
    ∧ quiescent_Kernel_pre_table_0312_Kernel (hKernel := hKernel) (hPre_table_0312_Kernel := hPre_table_0312_Kernel)
    ∧ quiescent_Kernel_pre_table_0321_Kernel (hKernel := hKernel) (hPre_table_0321_Kernel := hPre_table_0321_Kernel)
    ∧ quiescent_Kernel_pre_table_1023_Kernel (hKernel := hKernel) (hPre_table_1023_Kernel := hPre_table_1023_Kernel)
    ∧ quiescent_Kernel_pre_table_1032_Kernel (hKernel := hKernel) (hPre_table_1032_Kernel := hPre_table_1032_Kernel)
    ∧ quiescent_Kernel_pre_table_1203_Kernel (hKernel := hKernel) (hPre_table_1203_Kernel := hPre_table_1203_Kernel)
    ∧ quiescent_Kernel_pre_table_1230_Kernel (hKernel := hKernel) (hPre_table_1230_Kernel := hPre_table_1230_Kernel)
    ∧ quiescent_Kernel_pre_table_1302_Kernel (hKernel := hKernel) (hPre_table_1302_Kernel := hPre_table_1302_Kernel)
    ∧ quiescent_Kernel_pre_table_1320_Kernel (hKernel := hKernel) (hPre_table_1320_Kernel := hPre_table_1320_Kernel)
    ∧ quiescent_Kernel_pre_table_2013_Kernel (hKernel := hKernel) (hPre_table_2013_Kernel := hPre_table_2013_Kernel)
    ∧ quiescent_Kernel_pre_table_2031_Kernel (hKernel := hKernel) (hPre_table_2031_Kernel := hPre_table_2031_Kernel)
    ∧ quiescent_Kernel_pre_table_2103_Kernel (hKernel := hKernel) (hPre_table_2103_Kernel := hPre_table_2103_Kernel)
    ∧ quiescent_Kernel_pre_table_2130_Kernel (hKernel := hKernel) (hPre_table_2130_Kernel := hPre_table_2130_Kernel)
    ∧ quiescent_Kernel_pre_table_2301_Kernel (hKernel := hKernel) (hPre_table_2301_Kernel := hPre_table_2301_Kernel)
    ∧ quiescent_Kernel_pre_table_2310_Kernel (hKernel := hKernel) (hPre_table_2310_Kernel := hPre_table_2310_Kernel)
    ∧ quiescent_Kernel_pre_table_3012_Kernel (hKernel := hKernel) (hPre_table_3012_Kernel := hPre_table_3012_Kernel)
    ∧ quiescent_Kernel_pre_table_3021_Kernel (hKernel := hKernel) (hPre_table_3021_Kernel := hPre_table_3021_Kernel)
    ∧ quiescent_Kernel_pre_table_3102_Kernel (hKernel := hKernel) (hPre_table_3102_Kernel := hPre_table_3102_Kernel)
    ∧ quiescent_Kernel_pre_table_3120_Kernel (hKernel := hKernel) (hPre_table_3120_Kernel := hPre_table_3120_Kernel)
    ∧ quiescent_Kernel_pre_table_3201_Kernel (hKernel := hKernel) (hPre_table_3201_Kernel := hPre_table_3201_Kernel)
    ∧ quiescent_Kernel_pre_table_3210_Kernel (hKernel := hKernel) (hPre_table_3210_Kernel := hPre_table_3210_Kernel)
    ∧ quiescent_KernelIdeal (hKernelIdeal := hKernelIdeal) (hPre_table_0123_Kernel := hPre_table_0123_Kernel)
    ∧ quiescent_KernelIdeal_pre_table_0132_Kernel (hKernelIdeal := hKernelIdeal) (hPre_table_0132_Kernel := hPre_table_0132_Kernel)
    ∧ quiescent_KernelIdeal_pre_table_0213_Kernel (hKernelIdeal := hKernelIdeal) (hPre_table_0213_Kernel := hPre_table_0213_Kernel)
    ∧ quiescent_KernelIdeal_pre_table_0231_Kernel (hKernelIdeal := hKernelIdeal) (hPre_table_0231_Kernel := hPre_table_0231_Kernel)
    ∧ quiescent_KernelIdeal_pre_table_0312_Kernel (hKernelIdeal := hKernelIdeal) (hPre_table_0312_Kernel := hPre_table_0312_Kernel)
    ∧ quiescent_KernelIdeal_pre_table_0321_Kernel (hKernelIdeal := hKernelIdeal) (hPre_table_0321_Kernel := hPre_table_0321_Kernel)
    ∧ quiescent_KernelIdeal_pre_table_1023_Kernel (hKernelIdeal := hKernelIdeal) (hPre_table_1023_Kernel := hPre_table_1023_Kernel)
    ∧ quiescent_KernelIdeal_pre_table_1032_Kernel (hKernelIdeal := hKernelIdeal) (hPre_table_1032_Kernel := hPre_table_1032_Kernel)
    ∧ quiescent_KernelIdeal_pre_table_1203_Kernel (hKernelIdeal := hKernelIdeal) (hPre_table_1203_Kernel := hPre_table_1203_Kernel)
    ∧ quiescent_KernelIdeal_pre_table_1230_Kernel (hKernelIdeal := hKernelIdeal) (hPre_table_1230_Kernel := hPre_table_1230_Kernel)
    ∧ quiescent_KernelIdeal_pre_table_1302_Kernel (hKernelIdeal := hKernelIdeal) (hPre_table_1302_Kernel := hPre_table_1302_Kernel)
    ∧ quiescent_KernelIdeal_pre_table_1320_Kernel (hKernelIdeal := hKernelIdeal) (hPre_table_1320_Kernel := hPre_table_1320_Kernel)
    ∧ quiescent_KernelIdeal_pre_table_2013_Kernel (hKernelIdeal := hKernelIdeal) (hPre_table_2013_Kernel := hPre_table_2013_Kernel)
    ∧ quiescent_KernelIdeal_pre_table_2031_Kernel (hKernelIdeal := hKernelIdeal) (hPre_table_2031_Kernel := hPre_table_2031_Kernel)
    ∧ quiescent_KernelIdeal_pre_table_2103_Kernel (hKernelIdeal := hKernelIdeal) (hPre_table_2103_Kernel := hPre_table_2103_Kernel)
    ∧ quiescent_KernelIdeal_pre_table_2130_Kernel (hKernelIdeal := hKernelIdeal) (hPre_table_2130_Kernel := hPre_table_2130_Kernel)
    ∧ quiescent_KernelIdeal_pre_table_2301_Kernel (hKernelIdeal := hKernelIdeal) (hPre_table_2301_Kernel := hPre_table_2301_Kernel)
    ∧ quiescent_KernelIdeal_pre_table_2310_Kernel (hKernelIdeal := hKernelIdeal) (hPre_table_2310_Kernel := hPre_table_2310_Kernel)
    ∧ quiescent_KernelIdeal_pre_table_3012_Kernel (hKernelIdeal := hKernelIdeal) (hPre_table_3012_Kernel := hPre_table_3012_Kernel)
    ∧ quiescent_KernelIdeal_pre_table_3021_Kernel (hKernelIdeal := hKernelIdeal) (hPre_table_3021_Kernel := hPre_table_3021_Kernel)
    ∧ quiescent_KernelIdeal_pre_table_3102_Kernel (hKernelIdeal := hKernelIdeal) (hPre_table_3102_Kernel := hPre_table_3102_Kernel)
    ∧ quiescent_KernelIdeal_pre_table_3120_Kernel (hKernelIdeal := hKernelIdeal) (hPre_table_3120_Kernel := hPre_table_3120_Kernel)
    ∧ quiescent_KernelIdeal_pre_table_3201_Kernel (hKernelIdeal := hKernelIdeal) (hPre_table_3201_Kernel := hPre_table_3201_Kernel)
    ∧ quiescent_KernelIdeal_pre_table_3210_Kernel (hKernelIdeal := hKernelIdeal) (hPre_table_3210_Kernel := hPre_table_3210_Kernel)
    ∧ quiescent_ReferenceIdeal (hReferenceIdeal := hReferenceIdeal)
    ∧ quiescent_ReferenceIdeal_pre_table_0123_ReferenceIdeal (hReferenceIdeal := hReferenceIdeal) (hPre_table_0123_ReferenceIdeal := hPre_table_0123_ReferenceIdeal)
    ∧ quiescent_ReferenceIdeal_pre_table_0132_ReferenceIdeal (hReferenceIdeal := hReferenceIdeal) (hPre_table_0132_ReferenceIdeal := hPre_table_0132_ReferenceIdeal)
    ∧ quiescent_ReferenceIdeal_pre_table_0213_ReferenceIdeal (hReferenceIdeal := hReferenceIdeal) (hPre_table_0213_ReferenceIdeal := hPre_table_0213_ReferenceIdeal)
    ∧ quiescent_ReferenceIdeal_pre_table_0231_ReferenceIdeal (hReferenceIdeal := hReferenceIdeal) (hPre_table_0231_ReferenceIdeal := hPre_table_0231_ReferenceIdeal)
    ∧ quiescent_ReferenceIdeal_pre_table_0312_ReferenceIdeal (hReferenceIdeal := hReferenceIdeal) (hPre_table_0312_ReferenceIdeal := hPre_table_0312_ReferenceIdeal)
    ∧ quiescent_ReferenceIdeal_pre_table_0321_ReferenceIdeal (hReferenceIdeal := hReferenceIdeal) (hPre_table_0321_ReferenceIdeal := hPre_table_0321_ReferenceIdeal)
    ∧ quiescent_ReferenceIdeal_pre_table_1023_ReferenceIdeal (hReferenceIdeal := hReferenceIdeal) (hPre_table_1023_ReferenceIdeal := hPre_table_1023_ReferenceIdeal)
    ∧ quiescent_ReferenceIdeal_pre_table_1032_ReferenceIdeal (hReferenceIdeal := hReferenceIdeal) (hPre_table_1032_ReferenceIdeal := hPre_table_1032_ReferenceIdeal)
    ∧ quiescent_ReferenceIdeal_pre_table_1203_ReferenceIdeal (hReferenceIdeal := hReferenceIdeal) (hPre_table_1203_ReferenceIdeal := hPre_table_1203_ReferenceIdeal)
    ∧ quiescent_ReferenceIdeal_pre_table_1230_ReferenceIdeal (hReferenceIdeal := hReferenceIdeal) (hPre_table_1230_ReferenceIdeal := hPre_table_1230_ReferenceIdeal)
    ∧ quiescent_ReferenceIdeal_pre_table_1302_ReferenceIdeal (hReferenceIdeal := hReferenceIdeal) (hPre_table_1302_ReferenceIdeal := hPre_table_1302_ReferenceIdeal)
    ∧ quiescent_ReferenceIdeal_pre_table_1320_ReferenceIdeal (hReferenceIdeal := hReferenceIdeal) (hPre_table_1320_ReferenceIdeal := hPre_table_1320_ReferenceIdeal)
    ∧ quiescent_ReferenceIdeal_pre_table_2013_ReferenceIdeal (hReferenceIdeal := hReferenceIdeal) (hPre_table_2013_ReferenceIdeal := hPre_table_2013_ReferenceIdeal)
    ∧ quiescent_ReferenceIdeal_pre_table_2031_ReferenceIdeal (hReferenceIdeal := hReferenceIdeal) (hPre_table_2031_ReferenceIdeal := hPre_table_2031_ReferenceIdeal)
    ∧ quiescent_ReferenceIdeal_pre_table_2103_ReferenceIdeal (hReferenceIdeal := hReferenceIdeal) (hPre_table_2103_ReferenceIdeal := hPre_table_2103_ReferenceIdeal)
    ∧ quiescent_ReferenceIdeal_pre_table_2130_ReferenceIdeal (hReferenceIdeal := hReferenceIdeal) (hPre_table_2130_ReferenceIdeal := hPre_table_2130_ReferenceIdeal)
    ∧ quiescent_ReferenceIdeal_pre_table_2301_ReferenceIdeal (hReferenceIdeal := hReferenceIdeal) (hPre_table_2301_ReferenceIdeal := hPre_table_2301_ReferenceIdeal)
    ∧ quiescent_ReferenceIdeal_pre_table_2310_ReferenceIdeal (hReferenceIdeal := hReferenceIdeal) (hPre_table_2310_ReferenceIdeal := hPre_table_2310_ReferenceIdeal)
    ∧ quiescent_ReferenceIdeal_pre_table_3012_ReferenceIdeal (hReferenceIdeal := hReferenceIdeal) (hPre_table_3012_ReferenceIdeal := hPre_table_3012_ReferenceIdeal)
    ∧ quiescent_ReferenceIdeal_pre_table_3021_ReferenceIdeal (hReferenceIdeal := hReferenceIdeal) (hPre_table_3021_ReferenceIdeal := hPre_table_3021_ReferenceIdeal)
    ∧ quiescent_ReferenceIdeal_pre_table_3102_ReferenceIdeal (hReferenceIdeal := hReferenceIdeal) (hPre_table_3102_ReferenceIdeal := hPre_table_3102_ReferenceIdeal)
    ∧ quiescent_ReferenceIdeal_pre_table_3120_ReferenceIdeal (hReferenceIdeal := hReferenceIdeal) (hPre_table_3120_ReferenceIdeal := hPre_table_3120_ReferenceIdeal)
    ∧ quiescent_ReferenceIdeal_pre_table_3201_ReferenceIdeal (hReferenceIdeal := hReferenceIdeal) (hPre_table_3201_ReferenceIdeal := hPre_table_3201_ReferenceIdeal)
    ∧ quiescent_ReferenceIdeal_pre_table_3210_ReferenceIdeal (hReferenceIdeal := hReferenceIdeal) (hPre_table_3210_ReferenceIdeal := hPre_table_3210_ReferenceIdeal)
    ∧ preserves_Kernel_KernelIdeal
    ∧ algebraic_KernelIdeal_ReferenceIdeal (hKernelIdeal := hKernelIdeal) (hReferenceIdeal := hReferenceIdeal) (hPre_table_0123_Kernel := hPre_table_0123_Kernel)
    ∧ algebraic_KernelIdeal_ReferenceIdeal_pre_table_0132_Kernel (hKernelIdeal := hKernelIdeal) (hReferenceIdeal := hReferenceIdeal) (hPre_table_0132_Kernel := hPre_table_0132_Kernel)
    ∧ algebraic_KernelIdeal_ReferenceIdeal_pre_table_0213_Kernel (hKernelIdeal := hKernelIdeal) (hReferenceIdeal := hReferenceIdeal) (hPre_table_0213_Kernel := hPre_table_0213_Kernel)
    ∧ algebraic_KernelIdeal_ReferenceIdeal_pre_table_0231_Kernel (hKernelIdeal := hKernelIdeal) (hReferenceIdeal := hReferenceIdeal) (hPre_table_0231_Kernel := hPre_table_0231_Kernel)
    ∧ algebraic_KernelIdeal_ReferenceIdeal_pre_table_0312_Kernel (hKernelIdeal := hKernelIdeal) (hReferenceIdeal := hReferenceIdeal) (hPre_table_0312_Kernel := hPre_table_0312_Kernel)
    ∧ algebraic_KernelIdeal_ReferenceIdeal_pre_table_0321_Kernel (hKernelIdeal := hKernelIdeal) (hReferenceIdeal := hReferenceIdeal) (hPre_table_0321_Kernel := hPre_table_0321_Kernel)
    ∧ algebraic_KernelIdeal_ReferenceIdeal_pre_table_1023_Kernel (hKernelIdeal := hKernelIdeal) (hReferenceIdeal := hReferenceIdeal) (hPre_table_1023_Kernel := hPre_table_1023_Kernel)
    ∧ algebraic_KernelIdeal_ReferenceIdeal_pre_table_1032_Kernel (hKernelIdeal := hKernelIdeal) (hReferenceIdeal := hReferenceIdeal) (hPre_table_1032_Kernel := hPre_table_1032_Kernel)
    ∧ algebraic_KernelIdeal_ReferenceIdeal_pre_table_1203_Kernel (hKernelIdeal := hKernelIdeal) (hReferenceIdeal := hReferenceIdeal) (hPre_table_1203_Kernel := hPre_table_1203_Kernel)
    ∧ algebraic_KernelIdeal_ReferenceIdeal_pre_table_1230_Kernel (hKernelIdeal := hKernelIdeal) (hReferenceIdeal := hReferenceIdeal) (hPre_table_1230_Kernel := hPre_table_1230_Kernel)
    ∧ algebraic_KernelIdeal_ReferenceIdeal_pre_table_1302_Kernel (hKernelIdeal := hKernelIdeal) (hReferenceIdeal := hReferenceIdeal) (hPre_table_1302_Kernel := hPre_table_1302_Kernel)
    ∧ algebraic_KernelIdeal_ReferenceIdeal_pre_table_1320_Kernel (hKernelIdeal := hKernelIdeal) (hReferenceIdeal := hReferenceIdeal) (hPre_table_1320_Kernel := hPre_table_1320_Kernel)
    ∧ algebraic_KernelIdeal_ReferenceIdeal_pre_table_2013_Kernel (hKernelIdeal := hKernelIdeal) (hReferenceIdeal := hReferenceIdeal) (hPre_table_2013_Kernel := hPre_table_2013_Kernel)
    ∧ algebraic_KernelIdeal_ReferenceIdeal_pre_table_2031_Kernel (hKernelIdeal := hKernelIdeal) (hReferenceIdeal := hReferenceIdeal) (hPre_table_2031_Kernel := hPre_table_2031_Kernel)
    ∧ algebraic_KernelIdeal_ReferenceIdeal_pre_table_2103_Kernel (hKernelIdeal := hKernelIdeal) (hReferenceIdeal := hReferenceIdeal) (hPre_table_2103_Kernel := hPre_table_2103_Kernel)
    ∧ algebraic_KernelIdeal_ReferenceIdeal_pre_table_2130_Kernel (hKernelIdeal := hKernelIdeal) (hReferenceIdeal := hReferenceIdeal) (hPre_table_2130_Kernel := hPre_table_2130_Kernel)
    ∧ algebraic_KernelIdeal_ReferenceIdeal_pre_table_2301_Kernel (hKernelIdeal := hKernelIdeal) (hReferenceIdeal := hReferenceIdeal) (hPre_table_2301_Kernel := hPre_table_2301_Kernel)
    ∧ algebraic_KernelIdeal_ReferenceIdeal_pre_table_2310_Kernel (hKernelIdeal := hKernelIdeal) (hReferenceIdeal := hReferenceIdeal) (hPre_table_2310_Kernel := hPre_table_2310_Kernel)
    ∧ algebraic_KernelIdeal_ReferenceIdeal_pre_table_3012_Kernel (hKernelIdeal := hKernelIdeal) (hReferenceIdeal := hReferenceIdeal) (hPre_table_3012_Kernel := hPre_table_3012_Kernel)
    ∧ algebraic_KernelIdeal_ReferenceIdeal_pre_table_3021_Kernel (hKernelIdeal := hKernelIdeal) (hReferenceIdeal := hReferenceIdeal) (hPre_table_3021_Kernel := hPre_table_3021_Kernel)
    ∧ algebraic_KernelIdeal_ReferenceIdeal_pre_table_3102_Kernel (hKernelIdeal := hKernelIdeal) (hReferenceIdeal := hReferenceIdeal) (hPre_table_3102_Kernel := hPre_table_3102_Kernel)
    ∧ algebraic_KernelIdeal_ReferenceIdeal_pre_table_3120_Kernel (hKernelIdeal := hKernelIdeal) (hReferenceIdeal := hReferenceIdeal) (hPre_table_3120_Kernel := hPre_table_3120_Kernel)
    ∧ algebraic_KernelIdeal_ReferenceIdeal_pre_table_3201_Kernel (hKernelIdeal := hKernelIdeal) (hReferenceIdeal := hReferenceIdeal) (hPre_table_3201_Kernel := hPre_table_3201_Kernel)
    ∧ algebraic_KernelIdeal_ReferenceIdeal_pre_table_3210_Kernel (hKernelIdeal := hKernelIdeal) (hReferenceIdeal := hReferenceIdeal) (hPre_table_3210_Kernel := hPre_table_3210_Kernel)
-- ==== Pre_table_0123_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_table_0123_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_table_0132_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_table_0132_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_table_0213_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_table_0213_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_table_0231_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_table_0231_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_table_0312_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_table_0312_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_table_0321_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_table_0321_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_table_1023_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_table_1023_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_table_1032_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_table_1032_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_table_1203_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_table_1203_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_table_1230_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_table_1230_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_table_1302_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_table_1302_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_table_1320_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_table_1320_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_table_2013_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_table_2013_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_table_2031_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_table_2031_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_table_2103_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_table_2103_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_table_2130_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_table_2130_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_table_2301_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_table_2301_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_table_2310_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_table_2310_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_table_3012_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_table_3012_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_table_3021_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_table_3021_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_table_3102_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_table_3102_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_table_3120_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_table_3120_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_table_3201_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_table_3201_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_table_3210_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_table_3210_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Kernel.lean ====
abbrev S1x256x256 : Shape := ⟨3, ![1, 256, 256]⟩
abbrev S4 : Shape := ⟨1, ![4]⟩
abbrev S_ : Shape := ⟨0, ![]⟩
abbrev S1 : Shape := ⟨1, ![1]⟩

abbrev nBuf : Space → Nat
  | .hbm => 3
  | .vmem => 3
  | .smem => 1
  | _ => 0

abbrev bufTy : (tb : Table) → Fin (tcTables nBuf tb) → BufTy
  | .hbm, ⟨0, _⟩ => ⟨S1x256x256, .bf16⟩
  | .hbm, ⟨1, _⟩ => ⟨S4, .i32⟩
  | .hbm, ⟨2, _⟩ => ⟨S1x256x256, .bf16⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .smem, ⟨0, _⟩ => ⟨S4, .i32⟩
  | _, _ => ⟨S1x256x256, .bf16⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_off1 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : Index := Scalar.indexCast v5
  ![v9.toNat]
def k0_dev1 (d0 : Dev nD) (v11 : BitVec 32) (v14 : BitVec 32) (v17 : BitVec 32) (v20 : BitVec 32) : Nat :=
  let c0_i32_7 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_6 : BitVec 32 := 16#32
  let v24 : BitVec 32 := Scalar.muli v2 c16_i32_6
  let v25 : BitVec 32 := Scalar.addi c0_i32_7 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v21 : BitVec 1 := Scalar.cmpi .eq v20 v5
  let c3_i32 : BitVec 32 := 3#32
  let v18 : BitVec 1 := Scalar.cmpi .eq v17 v5
  let c2_i32_4 : BitVec 32 := 2#32
  let v15 : BitVec 1 := Scalar.cmpi .eq v14 v5
  let c1_i32_3 : BitVec 32 := 1#32
  let v12 : BitVec 1 := Scalar.cmpi .eq v11 v5
  let c0_i32 : BitVec 32 := 0#32
  let c0_i32_2 : BitVec 32 := 0#32
  let v13 : BitVec 32 := Scalar.select v12 c0_i32 c0_i32_2
  let v16 : BitVec 32 := Scalar.select v15 c1_i32_3 v13
  let v19 : BitVec 32 := Scalar.select v18 c2_i32_4 v16
  let v22 : BitVec 32 := Scalar.select v21 c3_i32 v19
  let c4_i32_8 : BitVec 32 := 4#32
  let v26 : BitVec 32 := Scalar.muli v22 c4_i32_8
  let v27 : BitVec 32 := Scalar.addi v25 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v28 : BitVec 32 := Scalar.muli v8 c1_i32_9
  let v29 : BitVec 32 := Scalar.addi v27 v28
  v29.toNat

def k0_chk1 (d0 : Dev nD) (v11 : BitVec 32) (v14 : BitVec 32) (v17 : BitVec 32) (v20 : BitVec 32) : Prop :=
  ((k0_dev1 d0 v11 v14 v17 v20) < nD)
theorem k0_dev1_lt : ∀ (d0 : Dev nD) (v11 : BitVec 32) (v14 : BitVec 32) (v17 : BitVec 32) (v20 : BitVec 32) (k0_hw1 : k0_chk1 d0 v11 v14 v17 v20), (k0_dev1 d0 v11 v14 v17 v20) < nD := fun d0 v11 v14 v17 v20 k0_hw1 => k0_hw1

def k0_dev2 (d0 : Dev nD) (v10 : BitVec 32) : Nat :=
  let c0_i32_18 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_17 : BitVec 32 := 16#32
  let v35 : BitVec 32 := Scalar.muli v2 c16_i32_17
  let v36 : BitVec 32 := Scalar.addi c0_i32_18 v35
  let c4_i32_19 : BitVec 32 := 4#32
  let v37 : BitVec 32 := Scalar.muli v10 c4_i32_19
  let v38 : BitVec 32 := Scalar.addi v36 v37
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v39 : BitVec 32 := Scalar.muli v8 c1_i32_20
  let v40 : BitVec 32 := Scalar.addi v38 v39
  v40.toNat

def k0_chk2 (d0 : Dev nD) (v10 : BitVec 32) : Prop :=
  ((k0_dev2 d0 v10) < nD)
theorem k0_dev2_lt : ∀ (d0 : Dev nD) (v10 : BitVec 32) (k0_hw2 : k0_chk2 d0 v10), (k0_dev2 d0 v10) < nD := fun d0 v10 k0_hw2 => k0_hw2

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x256x256 : Shape := ⟨3, ![4, 256, 256]⟩
abbrev S4 : Shape := ⟨1, ![4]⟩
abbrev S_ : Shape := ⟨0, ![]⟩
abbrev S4x1 : Shape := ⟨2, ![4, 1]⟩

abbrev nBuf : Space → Nat
  | .hbm => 16
  | .vmem => 0
  | .smem => 0
  | _ => 0

abbrev bufTy : (tb : Table) → Fin (tcTables nBuf tb) → BufTy
  | .hbm, ⟨0, _⟩ => ⟨S4x256x256, .bf16⟩
  | .hbm, ⟨1, _⟩ => ⟨S4, .i32⟩
  | .hbm, ⟨2, _⟩ => ⟨S4, .i32⟩
  | .hbm, ⟨3, _⟩ => ⟨S4, .i32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i1⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i32⟩
  | .hbm, ⟨12, _⟩ => ⟨S4x1, .i32⟩
  | .hbm, ⟨13, _⟩ => ⟨S4x256x256, .bf16⟩
  | .hbm, ⟨14, _⟩ => ⟨S4x256x256, .f32⟩
  | .hbm, ⟨15, _⟩ => ⟨S4x256x256, .bf16⟩
  | _, _ => ⟨S4x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.Peers.lean ====
/-
# Who talks to whom

The mesh is 2 × 4 × 4 and device `c` sits at coordinate `c / 4 % 4` of the axis `y`, along which everything moves. A
permutation `σ` of the four coordinates names, for each device, the device with the same other coordinates to which its
block goes (`goes σ`) and the one its block comes from (`goes σ.symm`). This module has the two as a bijection of the
devices, the table's words for `σ`, and that the kernel's address arithmetic over those words computes exactly these
two devices.
-/
module

public import proofs.«01_k».proof.Proof.Gen.KernelIdeal

@[expose] public section

noncomputable section

namespace Cert.Shuffle

open Cert.KernelIdeal Cert.KernelIdeal.Gen
open Idealize.ShloMosaic

/-- A permutation of the four places of the axis `y`. -/
abbrev Places : Type := Equiv.Perm (Fin 4)

/-- The place of device `c` on the axis `y`. -/
def place (c : Dev nD) : Fin 4 := ⟨c.val / 4 % 4, Nat.mod_lt _ (by decide)⟩

/-- The device at place `y`, at `c`'s coordinates on the other two axes. -/
def at_ (c : Dev nD) (y : Fin 4) : Dev nD :=
  ⟨16 * (c.val / 16) + 4 * y.val + c.val % 4, by have h : c.val < 32 := c.isLt; show _ < 32; omega⟩

/-- The device at place `y` is at place `y`. -/
theorem place_at (c : Dev nD) (y : Fin 4) : place (at_ c y) = y := by
  apply Fin.ext; show (16 * (c.val / 16) + 4 * y.val + c.val % 4) / 4 % 4 = y.val; omega

/-- Moving along the axis twice is moving to the last place named. -/
theorem at_at (c : Dev nD) (y z : Fin 4) : at_ (at_ c y) z = at_ c z := by
  have h : c.val < 32 := c.isLt
  apply Fin.ext
  show 16 * ((16 * (c.val / 16) + 4 * y.val + c.val % 4) / 16) + 4 * z.val + (16 * (c.val / 16) + 4 * y.val + c.val % 4) % 4
    = 16 * (c.val / 16) + 4 * z.val + c.val % 4
  omega

/-- A device is the one at its own place. -/
theorem at_place (c : Dev nD) : at_ c (place c) = c := by
  have h : c.val < 32 := c.isLt
  apply Fin.ext; show 16 * (c.val / 16) + 4 * (c.val / 4 % 4) + c.val % 4 = c.val; omega

/-- The device to which `c`'s block goes under `σ`. -/
def goes (σ : Places) (c : Dev nD) : Dev nD := at_ c (σ (place c))

/-- The device that `c` sends to is at the place to which the permutation takes `c`'s. -/
theorem place_goes (σ : Places) (c : Dev nD) : place (goes σ c) = σ (place c) := place_at _ _

/-- Going on after having come from is standing still, -/
theorem goes_symm (σ : Places) (c : Dev nD) : goes σ (goes σ.symm c) = c := by
  unfold goes; rw [place_at, at_at, Equiv.apply_symm_apply, at_place]
/-- and so is the other way round. -/
theorem symm_goes (σ : Places) (c : Dev nD) : goes σ.symm (goes σ c) = c := by
  unfold goes; rw [place_at, at_at, Equiv.symm_apply_apply, at_place]

/-- The traffic of `σ` as a bijection of the devices. -/
def traffic (σ : Places) : Dev nD ≃ Dev nD := ⟨goes σ, goes σ.symm, symm_goes σ, goes_symm σ⟩

/-- A device comes from `d` exactly when `d` goes to it. -/
theorem goes_eq_iff (σ : Places) (c d : Dev nD) : goes σ d = c ↔ d = goes σ.symm c :=
  ⟨fun h => by rw [← h, symm_goes], fun h => by rw [h, goes_symm]⟩

/-- A place as the word the table holds. -/
abbrev wordOf (y : Fin 4) : BitVec 32 := BitVec.ofNat 32 y.val

/-- The transfer's address, over the word for a place: the device at that place. -/
theorem dev2_word : ∀ (c : Dev nD) (y : Fin 4), k0_dev2 c (wordOf y) = (at_ c y).val := by decide +kernel

/-- Over the word for a place the transfer's address is a device. -/
theorem chk2_word (c : Dev nD) (y : Fin 4) : k0_chk2 c (wordOf y) := by
  unfold k0_chk2; rw [dev2_word]; exact (at_ c y).isLt

/-- Four places as a function of the place they stand at. -/
def row (a₀ a₁ a₂ a₃ : Fin 4) : Fin 4 → Fin 4 := fun | 0 => a₀ | 1 => a₁ | 2 => a₂ | 3 => a₃

/-- The four words' comparisons select the one place whose word is the device's own. -/
theorem dev1_row : ∀ (c : Dev nD) (a₀ a₁ a₂ a₃ y : Fin 4), row a₀ a₁ a₂ a₃ y = place c →
    (∀ z, row a₀ a₁ a₂ a₃ z = place c → z = y) →
    k0_dev1 c (wordOf a₀) (wordOf a₁) (wordOf a₂) (wordOf a₃) = (at_ c y).val := by decide +kernel

/-- Over the words of `σ` the signal's address is the device `c`'s block comes from. -/
theorem dev1_words (σ : Places) (c : Dev nD) :
    k0_dev1 c (wordOf (σ 0)) (wordOf (σ 1)) (wordOf (σ 2)) (wordOf (σ 3)) = (goes σ.symm c).val := by
  have e : row (σ 0) (σ 1) (σ 2) (σ 3) = σ := funext fun z => by fin_cases z <;> rfl
  refine dev1_row c _ _ _ _ (σ.symm (place c)) ?_ fun z hz => ?_
  · rw [e, Equiv.apply_symm_apply]
  · rw [e] at hz; rw [← hz, Equiv.symm_apply_apply]

/-- Over the words of `σ` the signal's address is a device. -/
theorem chk1_words (σ : Places) (c : Dev nD) : k0_chk1 c (wordOf (σ 0)) (wordOf (σ 1)) (wordOf (σ 2)) (wordOf (σ 3)) := by
  unfold k0_chk1; rw [dev1_words]; exact (goes σ.symm c).isLt

/-- Over its own word of `σ` the transfer's address is the device `c`'s block goes to. -/
theorem dev2_words (σ : Places) (c : Dev nD) : k0_dev2 c (wordOf (σ (place c))) = (goes σ c).val := dev2_word c _

end Cert.Shuffle

end
-- ==== Proof.Protocol.lean ====
/-
# The protocol of one device's exchange

Every device has three semaphores of the exchange, its three stations, numbered `0`, `1`, `2`:

* `0`, the barrier semaphore: the device to which `c` sends raises it by one once its result's staging buffer may be
  written, and with that hands `c` the buffer;
* `1`, the send semaphore: raised by the block's size when `c`'s block has been read out of the send buffer, which
  comes back with it;
* `2`, the receive semaphore: raised by the block's size when the block `c` is to hold has landed in its staging
  buffer, which comes back with it.

Each is raised once, so each is one round of one duty. This module has that schedule for a permutation `σ` of the
places and any float values, what each device owes, the order of the waits, and the state a device starts and ends in.
-/
module

public import proofs.«01_k».proof.Proof.Peers
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Shuffle

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

/-- The ghost algebra of the exchange's rounds, -/
abbrev XRounds : Type := URounds (GSem nD τ sig) Unit
/-- and the pipeline's beside it. -/
abbrev XGhost : Type := UR sig nD τ × XRounds

local notation "𝕄" => MT nD τ sig Unit (Elt F) ℕ XGhost ℕ

/-- The pipeline's half of the ghost algebra. -/
abbrev EPipe : Emb (UR sig nD τ) (MT nD τ sig Unit (Elt F) ℕ XGhost ℕ) := embL
/-- The exchange's half. -/
abbrev EX : Emb XRounds (MT nD τ sig Unit (Elt F) ℕ XGhost ℕ) := embR

/-- A block of `x`, one device's. -/
abbrev Block (F : FTy → Type) : Type := FVec F S1x256x256 .bf16
/-- A memory of the whole mesh. -/
abbrev Memory (F : FTy → Type) : Type := (ℓ : Loc nD τ sig) → Buf (Elt F) ℓ

/-! ## Buffers and semaphores -/

/-- The table's staging buffer, -/
abbrev tableM : Memref sig .tc .smem S4 .i32 := Memref.whole cc0_stg0_0
/-- the block's, -/
abbrev blockM : Memref sig .tc .vmem S1x256x256 .bf16 := Memref.whole cc0_stg1_0
/-- the result's, -/
abbrev resultM : Memref sig .tc .vmem S1x256x256 .bf16 := Memref.whole cc0_stg2_0
/-- and the send buffer. -/
abbrev sendM : Memref sig .tc .vmem S1x256x256 .bf16 := Memref.whole cc0_scratch0

/-- The barrier semaphore of the kernel's collective. -/
abbrev barrierSem : Sem sig := (SemArray.scalar (sig.barrier 0 rfl) : Sems sig S_).sem

/-- The semaphores of the three stations. -/
abbrev stationSem : Fin 3 → SemLoc sig := fun
  | 0 => .reg barrierSem
  | 1 => .dma (cc0_scratch1 : DmaSems sig S_).sem
  | 2 => .dma (cc0_scratch2 : DmaSems sig S_).sem

/-- Station `k` of device `c`. -/
abbrev cellAt (c : Dev nD) (k : Fin 3) : GSem nD τ sig := ((c : Thread nD τ), stationSem k)

/-- The station a semaphore is, if it is one. -/
def stationOf (s : SemLoc sig) : Option (Fin 3) :=
  if s = stationSem 0 then some 0 else if s = stationSem 1 then some 1 else if s = stationSem 2 then some 2 else none

/-- A station's number is read back from its semaphore. -/
theorem stationOf_sem : ∀ k : Fin 3, stationOf (stationSem k) = some k := by decide

/-- Stations are told apart by device and number. -/
theorem cellAt_inj {c d : Dev nD} {k l : Fin 3} (h : cellAt c k = cellAt d l) : c = d ∧ k = l := by
  refine ⟨congrArg (fun g : GSem nD τ sig => g.1.1) h, ?_⟩
  have := congrArg (fun g : GSem nD τ sig => stationOf g.2) h
  rw [show stationOf (cellAt c k).2 = some k from stationOf_sem k, show stationOf (cellAt d l).2 = some l from stationOf_sem l] at this
  exact Option.some.inj this

/-- What a block's transfer raises a semaphore by. -/
abbrev credit : ℕ := (resultM : Memref sig .tc .vmem S1x256x256 .bf16).view.dmaCredit

/-- What a station is raised by in all. -/
def units : Fin 3 → ℕ := fun | 0 => 1 | 1 => credit | 2 => credit

/-- Every station waits for at least one unit. -/
theorem units_pos : ∀ k, 0 < units k
  | 0 => Nat.one_pos
  | 1 => View.dmaCredit_pos _ (by decide)
  | 2 => View.dmaCredit_pos _ (by decide)

/-- The read of the send buffer counts a whole block's units. -/
theorem units_sent : units 1 = credit := rfl
/-- So does the landing. -/
theorem units_landed : units 2 = credit := rfl

/-! ## Contents -/

/-- Device `c`'s block of `x`. -/
def blockOf (m : Memory F) (c : Dev nD) : Block F := m ((c : Thread nD τ).loc main_arg0)

/-- The block device `c` ends up with: that of the device it comes from. -/
def arrives (σ : Places) (m : Memory F) (c : Dev nD) : Block F := blockOf m (goes σ.symm c)

/-- The send buffer of device `c` holds `f`. -/
def sendHolds (c : Dev nD) (f : Block F) : sProp 𝕄 := ((c : Thread nD τ).loc cc0_scratch0) ↦{fullShare} f
/-- The result's staging buffer of device `c` holds `f`. -/
def resultHolds (c : Dev nD) (f : Block F) : sProp 𝕄 := ((c : Thread nD τ).loc cc0_stg2_0) ↦{fullShare} f

instance sendHolds_storable (c : Dev nD) (f : Block F) : BI.Storable (upEmb : UEmb _ 𝕄) (sendHolds c f) := by
  unfold sendHolds; infer_instance
instance resultHolds_storable (c : Dev nD) (f : Block F) : BI.Storable (upEmb : UEmb _ 𝕄) (resultHolds c f) := by
  unfold resultHolds; infer_instance

/-! ## The schedule -/

variable (σ : Places) (m : Memory F)

/-- What the raise of station `k` hands device `c`. -/
def parcel (c : Dev nD) : Fin 3 → sProp 𝕄 := fun
  | 0 => iprop((∃ f, resultHolds (goes σ c) f) ∗ reached EX (cellAt (goes σ c) 2) 0)
  | 1 => sendHolds c (blockOf m c)
  | 2 => resultHolds c (arrives σ m c)

instance parcel_storable (c : Dev nD) (k : Fin 3) : BI.Storable (upEmb : UEmb _ 𝕄) (parcel σ m c k) := by
  unfold parcel; fin_cases k <;> infer_instance

/-- One round, one duty per station of a TensorCore. -/
def plan : Rounds.Schedule (GSem nD τ sig) Unit 𝕄 where
  duties g r := if r = 0 ∧ g.1.2 = .tc ∧ (stationOf g.2).isSome then {()} else ∅
  amount g _ _ := ((stationOf g.2).map units).getD 1
  payload g _ _ := ((stationOf g.2).map (parcel σ m g.1.1)).getD iprop(emp)
  unitless _ := False
  amount_pos g _ _ _ := by
    cases stationOf g.2 with
    | none => exact Nat.one_pos
    | some k => exact units_pos k

instance plan_payload_storable (g : GSem nD τ sig) (r : ℕ) (d : Unit) :
    BI.Storable (upEmb : UEmb _ 𝕄) ((plan σ m).payload g r d) := by
  dsimp only [plan]; cases stationOf g.2 <;> (simp only [Option.map_none, Option.map_some, Option.getD_none, Option.getD_some]; infer_instance)

section Tables
variable (c : Dev nD) (k : Fin 3)

/-- A station's first round has one duty. -/
theorem duties_at : (plan σ m).duties (cellAt c k) 0 = {()} := by
  dsimp only [plan]; rw [stationOf_sem]; exact if_pos ⟨rfl, rfl, rfl⟩
/-- That duty is among the round's. -/
theorem mem_duties : () ∈ (plan σ m).duties (cellAt c k) 0 := by rw [duties_at]; exact Finset.mem_singleton_self _
/-- No later round has any. -/
theorem duties_past (g : GSem nD τ sig) : ∀ r, 1 ≤ r → (plan σ m).duties g r = ∅ :=
  fun r hr => by dsimp only [plan]; exact if_neg fun h => by omega
/-- The duty pays all the station's units, -/
theorem amount_at (d : Unit) : (plan σ m).amount (cellAt c k) 0 d = units k := by
  dsimp only [plan]; rw [stationOf_sem]; rfl
/-- and hands over the station's parcel. -/
theorem payload_at (d : Unit) : (plan σ m).payload (cellAt c k) 0 d = parcel σ m c k := by
  dsimp only [plan]; rw [stationOf_sem]; rfl
/-- The round expects the station's units. -/
theorem expect_at : (plan σ m).expect (cellAt c k) 0 = units k := by
  unfold Schedule.expect Schedule.amountOf; rw [duties_at, Finset.sum_singleton, amount_at]
/-- All a station's round hands over is its one parcel. -/
theorem rest_at : bigSep ((plan σ m).duties (cellAt c k) 0 \ ∅) (fun d => (plan σ m).payload (cellAt c k) 0 d) = parcel σ m c k := by
  rw [Finset.sdiff_empty, duties_at, bigSep_singleton, payload_at]

end Tables

/-! ## What is owed, and the order of the waits -/

/-- After its signal a device owes the transfer into the device it sends to, -/
def owesSend (c : Dev nD) : CellTallies nD τ sig Unit := tallyAt (cellAt (goes σ c) 2) () (units 2)
/-- and before it the signal to the device it receives from too. -/
def owesAll (c : Dev nD) : CellTallies nD τ sig Unit := owesSend σ c + tallyAt (cellAt (goes σ.symm c) 0) () (units 0)

/-- Every TensorCore's semaphore is waited for at the one index. -/
def tags (g : GSem nD τ sig) : Finset Unit := if g.1.2 = .tc then {()} else ∅
/-- Barriers are waited for before landings, and everything else before both. -/
def level (g : GSem nD τ sig) (_ : Unit) : ℕ := ((stationOf g.2).map (fun | 0 => 1 | 1 => 0 | 2 => 2 : Fin 3 → ℕ)).getD 0

/-- Semaphores off the tensor core have no tag. -/
theorem tags_other (g : GSem nD τ sig) (h : g.1.2 ≠ .tc) : tags g = ∅ := if_neg h
/-- Those on it have their one tag. -/
theorem mem_tags (g : GSem nD τ sig) (h : g.1.2 = .tc) (u : Unit) : u ∈ tags g := by
  unfold tags; rw [if_pos h]; exact Finset.mem_singleton_self _

/-- What is owed after the signal is owed to a landing, -/
theorem owesSend_pos {c : Dev nD} {g : GSem nD τ sig} {u : Unit} (h : 0 < owesSend σ c g u) : g = cellAt (goes σ c) 2 := by
  unfold owesSend at h; rw [tallyAt_apply] at h
  by_contra hn; rw [if_neg fun e => hn e.1] at h; exact Nat.lt_irrefl 0 h
/-- and before it to a landing or a barrier. -/
theorem owesAll_pos {c : Dev nD} {g : GSem nD τ sig} {u : Unit} (h : 0 < owesAll σ c g u) :
    g = cellAt (goes σ c) 2 ∨ g = cellAt (goes σ.symm c) 0 := by
  unfold owesAll at h
  rw [Pi.add_apply, Finsupp.add_apply, tallyAt_apply] at h
  by_cases hb : g = cellAt (goes σ.symm c) 0
  · exact .inr hb
  · rw [if_neg fun e => hb e.1, Nat.add_zero] at h
    exact .inl (owesSend_pos σ h)

/-- The levels of the three stations: the send at the bottom, the barrier above it, the landing on top. -/
theorem level_at (c : Dev nD) (k : Fin 3) (u : Unit) : level (cellAt c k) u = (fun | 0 => 1 | 1 => 0 | 2 => 2 : Fin 3 → ℕ) k := by
  unfold level; rw [stationOf_sem]; rfl

/-- A device may wait on a semaphore while all it owes is owed to TensorCores' semaphores of higher level. -/
theorem mayWait_of (c : Dev nD) (s : SemLoc sig) (O : CellTallies nD τ sig Unit)
    (h : ∀ (g : GSem nD τ sig) (u : Unit), 0 < O g u → g.1.2 = .tc ∧ level ((c : Thread nD τ), s) () < level g u) :
    (levAts tags level : sProp 𝕄) ⊢ MayWait (c : Thread nD τ) s () O :=
  MayOwe.of_cut (L := tags) (lev := level) (level ((c : Thread nD τ), s) ())
    (fun p hp => by rw [Finset.mem_singleton.mp hp]; exact mem_tags _ rfl _)
    (fun g u hg => mem_tags g (h g u hg).1 u)
    (fun p hp => by rw [Finset.mem_singleton.mp hp])
    (fun g u hg => (h g u hg).2)

/-- A device that owes its transfer may wait on its barrier. -/
theorem mayWait_barrier (c : Dev nD) : (levAts tags level : sProp 𝕄) ⊢ MayWait (c : Thread nD τ) (stationSem 0) () (owesSend σ c) :=
  mayWait_of c _ _ fun g u hg => by
    rw [owesSend_pos σ hg]; refine ⟨rfl, ?_⟩
    rw [level_at, level_at]; decide

/-- A device that owes everything, or nothing, may wait on a semaphore that is no station. -/
theorem mayWait_other (c : Dev nD) (s : SemLoc sig) (hs : stationOf s = none) (O : CellTallies nD τ sig Unit) (hO : O = owesAll σ c ∨ O = 0) :
    (levAts tags level : sProp 𝕄) ⊢ MayWait (c : Thread nD τ) s () O := by
  have hl : level ((c : Thread nD τ), s) () = 0 := by unfold level; rw [hs]; rfl
  rcases hO with rfl | rfl
  · refine mayWait_of c _ _ fun g u hg => ?_
    rw [hl]
    rcases owesAll_pos σ hg with rfl | rfl <;> exact ⟨rfl, by rw [level_at]; decide⟩
  · rw [MayWait_zero]; iintro -; iempintro

/-! ## The states of a device -/

/-- The invariants of the stations a device touches: its own, the barrier it signals, the landing it raises. -/
def keys (K : Dev nD × Fin 3 → ℕ) (c : Dev nD) : sProp 𝕄 :=
  iprop(cellInv EX (plan σ m) (K (c, 0)) (cellAt c 0) ∗ cellInv EX (plan σ m) (K (c, 1)) (cellAt c 1) ∗ cellInv EX (plan σ m) (K (c, 2)) (cellAt c 2)
    ∗ cellInv EX (plan σ m) (K (goes σ.symm c, 0)) (cellAt (goes σ.symm c) 0) ∗ cellInv EX (plan σ m) (K (goes σ c, 2)) (cellAt (goes σ c) 2))

instance keys_persistent (K : Dev nD × Fin 3 → ℕ) (c : Dev nD) : BI.Persistent (keys σ m K c) := by unfold keys; infer_instance

/-- That the stations a device raises, and its own landing, are at their one round. -/
def marks (c : Dev nD) : sProp 𝕄 :=
  iprop(reached EX (cellAt (goes σ.symm c) 0) 0 ∗ reached EX (cellAt c 1) 0 ∗ reached EX (cellAt (goes σ c) 2) 0 ∗ reached EX (cellAt c 2) 0)

instance marks_persistent (c : Dev nD) : BI.Persistent (marks (F := F) σ c) := by unfold marks; infer_instance

/-- The duties a device pays: the signal, the read of its send buffer, the landing of its block. -/
def duties (c : Dev nD) : sProp 𝕄 :=
  iprop(dutyTok EX (cellAt (goes σ.symm c) 0) 0 () ∗ dutyTok EX (cellAt c 1) 0 () ∗ dutyTok EX (cellAt (goes σ c) 2) 0 ())

/-- Where a device stands at its own stations: before their one round. -/
def stands (c : Dev nD) : sProp 𝕄 :=
  iprop(atPos EX (cellAt c 0) 0 ∅ 0 ∗ atPos EX (cellAt c 1) 0 ∅ 0 ∗ atPos EX (cellAt c 2) 0 ∅ 0)

/-- The exchange's part of a device at the start, its stations' invariants under the names `K`. -/
def ready (K : Dev nD × Fin 3 → ℕ) (c : Dev nD) : sProp 𝕄 :=
  iprop(keys σ m K c ∗ marks σ c ∗ duties σ c ∗ stands c)

/-- The credit a device waits with, and the order of the waits. -/
def funds (c : Dev nD) : sProp 𝕄 :=
  iprop(cred (tallyAt (cellAt c 0) () (units 0)) ∗ cred (tallyAt (cellAt c 2) () (units 2)) ∗ levAts tags level)

/-- What a device enters its kernel with, but for the send buffer. -/
def entry (c : Dev nD) : sProp 𝕄 := iprop((∃ K, ready σ m K c) ∗ funds c)

/-- What it leaves its kernel with: the send buffer and its stations, closed at zero. -/
def leaves (c : Dev nD) : sProp 𝕄 :=
  iprop(sendHolds c (blockOf m c) ∗ semVal (cellAt c 0) 0 ∗ semVal (cellAt c 1) 0 ∗ semVal (cellAt c 2) 0)

/-- The table of `σ`: word `y` is the place to which the block of place `y` goes. -/
def tableOf (σ : Places) : IVec S4 32 := fun i => wordOf (σ (i 0))

/-- That every device's table is `σ`'s. -/
def Tabled : Prop := ∀ c : Dev nD, m ((c : Thread nD τ).loc main_arg1) = tableOf σ

/-- The pipeline's data: the arrays at launch, the three staging buffers after the one point, the states, the debts. -/
def flow (_ : Fin 1) (c : Dev nD) : Dat τ (Elt F) Unit ℕ XGhost ℕ cfg0 c where
  A w := m ((cfg0.win w).arr.view.loc (c : Thread nD τ))
  after w _ := match w with
    | ⟨0, _⟩ => tableOf σ
    | ⟨1, _⟩ => blockOf m c
    | ⟨2, _⟩ => arrives σ m c
  Φ t := match t with
    | ⟨0, _⟩ => iprop(entry σ m c ∗ ∃ f, sendHolds c f)
    | ⟨_ + 1, _⟩ => leaves m c
  q _ := fullShare
  owed t := match t with
    | ⟨0, _⟩ => owesAll σ c
    | ⟨_ + 1, _⟩ => 0

end Cert.Shuffle

end
-- ==== Proof.Body.lean ====
/-
# The kernel's body on one device

Under `σ`'s table the body runs from the entry state to the exit state: it reads the five words, signals the device it
receives from, copies its block to the send buffer, waits for its own barrier, transfers, and waits for the two ends of
the exchange. One lemma per reading of the memory, one per step of the exchange, and the body's run by them.
-/
module

public import proofs.«01_k».proof.Proof.Protocol

@[expose] public section

noncomputable section

namespace Cert.Shuffle

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ XGhost ℕ

/-- No variants: the body calls nothing. -/
abbrev noVars : Variants := Variants.none

/-! ## Readings of the memory -/

/-- The one word a unit rectangle of the table names, read out of the table of `σ`: the word of the rectangle's offset. -/
theorem word_at (σ : Places) (off : Fin 1 → ℕ) (inb : ∀ a, off a + S1.size a ≤ S4.size a) (y : Fin 4) (hy : off 0 = y.val) :
    ((tableM : Memref sig .tc .smem S4 .i32).access (Rect.unit (s := S4) off S1.size inb) : View sig .tc _ _ _).read (Elt F) (tableOf σ)
      (Shape.Idx.first (s := S1) (numel1_S1.symm ▸ Nat.one_pos)) = wordOf (σ y) := by
  show tableOf σ _ = _
  unfold tableOf
  refine congrArg (fun z => wordOf (σ z)) (Fin.ext ?_)
  rw [← hy]
  rfl

/-- The three zero offsets are the constant zero. -/
theorem zeros : (![0, 0, 0] : Fin 3 → ℕ) = fun _ => 0 := funext fun a => by fin_cases a <;> rfl

/-- The rectangle of a whole block. -/
abbrev wholeRect : Rect S1x256x256 := Rect.unit (s := S1x256x256) ![0, 0, 0] S1x256x256.size inb_S1x256x256_S1x256x256_0_0_0

/-- Reading the whole input block gives its contents. -/
theorem read_block (f : Block F) : (blockM : Memref sig .tc .vmem S1x256x256 .bf16).view.readAt (Elt F) wholeRect.toLoadRect f = f :=
  Memref.readAt_unit_zero (Elt F) cc0_stg1_0 zeros _ f
/-- Writing the whole send buffer leaves exactly what was written. -/
theorem write_send (f w : Block F) :
    ((sendM : Memref sig .tc .vmem S1x256x256 .bf16).access wholeRect : View sig .tc _ _ _).write (Elt F) f w Finset.univ = w :=
  Memref.write_access_unit_zero_univ (Elt F) cc0_scratch0 zeros _ f w

/-- The two re-shapings of the block on its way to the send buffer change nothing. -/
theorem pay_eq (f : Block F) : k0_pay1 (k0_pay2 f) = f := by
  unfold k0_pay1 k0_pay2 shapeCast
  simp only [Shape.reshapeEquiv_self]

/-- The landing of a send buffer in a result's staging buffer leaves it holding the block sent. -/
theorem land_eq (f g : Block F) :
    (resultM : Memref sig .tc .vmem S1x256x256 .bf16).view.write (Elt F) g ((sendM : Memref sig .tc .vmem S1x256x256 .bf16).view.read (Elt F) f) Finset.univ = f := by
  show (View.whole cc0_stg2_0).write (Elt F) g ((View.whole cc0_scratch0).read (Elt F) f) Finset.univ = f
  rw [View.read_whole]
  exact View.write_whole_univ _ _ _

/-! ## The steps of the exchange -/

section Run

variable (σ : Places) (m : Memory F) (K : Dev nD × Fin 3 → ℕ) (c : Dev nD)

/-- The signal, addressed to a device `n` that is the one `c` receives from: it hands over `c`'s result buffer. -/
theorem wp_ready (n : Dev nD) (hn : n = goes σ.symm c) (f : Block F) {α : Type} {Q : α → sProp 𝕄}
    {k : PUnit → Prog (TpuEff nD τ sig (Elt F) Λ₀ .tc) α} (W : Waits sig Unit) :
    iprop(cellInv EX (plan σ m) (K (goes σ.symm c, 0)) (cellAt (goes σ.symm c) 0) ∗ owes (c : Thread nD τ) (owesAll σ c) W
        ∗ dutyTok EX (cellAt (goes σ.symm c) 0) 0 () ∗ (resultHolds c f ∗ reached EX (cellAt c 2) 0)
        ∗ reached EX (cellAt (goes σ.symm c) 0) 0)
      ⊢ iprop((owes (c : Thread nD τ) (owesSend σ c) W -∗ wp frame (wpE (defs₀ (F := F)) noVars (c : Thread nD τ) none) Set.univ (k ⟨⟩) Q)
          -∗ wp frame (wpE (defs₀ (F := F)) noVars (c : Thread nD τ) none) Set.univ (.op (.semSignal (n : Thread nD τ) barrierSem (1#32 : BitVec 32).toNat) k) Q) := by
  subst hn
  iintro ⟨#HI, Ho, Ht, ⟨Hf, #HR⟩, #Hm⟩ Hk
  iapply (Rounds.wp_signal noVars EX (plan σ m) (c : Thread nD τ) none (dst := (goes σ.symm c : Thread nD τ))
    (κ := K (goes σ.symm c, 0)) (mem_duties σ m (goes σ.symm c) 0) (amount_at σ m (goes σ.symm c) 0 ()) () (owesSend σ c) rfl) $$ [Ho Ht Hf]
  · isplitr; · iexact HI
    isplitl [Ho]; · iexact Ho
    isplitl [Ht]; · iexact Ht
    isplitl [Hf]
    · rw [show (plan σ m).payload ((goes σ.symm c : Thread nD τ), .reg barrierSem) 0 () = parcel σ m (goes σ.symm c) 0 from payload_at σ m _ 0 ()]
      unfold parcel; dsimp only; rw [goes_symm]
      isplitl [Hf]; · iexists f; iexact Hf
      iexact HR
    · iexact Hm
  iexact Hk

/-- The transfer, addressed to a device `n` that is the one `c` sends to. -/
theorem wp_transfer (n : Dev nD) (hn : n = goes σ c) (f : Block F) {hsc : (resultM : Memref sig (Dev.tc n : Thread nD τ).2.kind .vmem S1x256x256 .bf16).view.ref.isScScratch = false}
    {hsrc : (sendM : Memref sig .tc .vmem S1x256x256 .bf16).view.WordExact} {hdst : (resultM : Memref sig .tc .vmem S1x256x256 .bf16).view.WordExact}
    {hsem : DmaTarget.Typed .vmem (.dma (cc0_scratch2 : DmaSems sig S_).sem) (.remote (Dev.tc n : Thread nD τ) (resultM : Memref sig .tc .vmem S1x256x256 .bf16) (.dma (cc0_scratch1 : DmaSems sig S_).sem) hsc)}
    {α : Type} {Q : α → sProp 𝕄} {k : PUnit → Prog (TpuEff nD τ sig (Elt F) Λ₀ .tc) α} (W : Waits sig Unit) :
    iprop(cellInv EX (plan σ m) (K (c, 1)) (cellAt c 1) ∗ cellInv EX (plan σ m) (K (goes σ c, 2)) (cellAt (goes σ c) 2)
        ∗ sendHolds c (blockOf m c) ∗ resultHolds (goes σ c) f ∗ owes (c : Thread nD τ) (owesSend σ c) W
        ∗ dutyTok EX (cellAt c 1) 0 () ∗ reached EX (cellAt c 1) 0
        ∗ dutyTok EX (cellAt (goes σ c) 2) 0 () ∗ reached EX (cellAt (goes σ c) 2) 0)
      ⊢ iprop(((cred (tallyAt (cellAt c 1) () (units 1)) ∗ owes (c : Thread nD τ) 0 W)
            -∗ wp frame (wpE (defs₀ (F := F)) noVars (c : Thread nD τ) none) Set.univ (k ⟨⟩) Q)
          -∗ wp frame (wpE (defs₀ (F := F)) noVars (c : Thread nD τ) none) Set.univ
              (.op (.enqueueDma sendM (.remote (Dev.tc n : Thread nD τ) resultM (.dma (cc0_scratch1 : DmaSems sig S_).sem) hsc) (.dma (cc0_scratch2 : DmaSems sig S_).sem) hsrc hdst hsem) k) Q) := by
  subst hn
  have hs : sendHolds c (blockOf m c) = ((sendM : Memref sig .tc .vmem S1x256x256 .bf16).view.loc (c : Thread nD τ)
      ↦[(sendM : Memref sig .tc .vmem S1x256x256 .bf16).view.set]{fullShare} blockOf m c : sProp 𝕄) := by
    unfold sendHolds; rw [View.set_whole]
  have hr (g : Block F) : resultHolds (goes σ c) g = ((resultM : Memref sig .tc .vmem S1x256x256 .bf16).view.loc (goes σ c : Thread nD τ)
      ↦[(resultM : Memref sig .tc .vmem S1x256x256 .bf16).view.set]{fullShare} g : sProp 𝕄) := by
    unfold resultHolds; rw [View.set_whole]
  rw [hs, hr, units_sent]
  unfold owesSend
  rw [units_landed]
  exact Rounds.wp_send_pointsTo noVars EX (plan σ m) (c : Thread nD τ) none (κ₁ := K (c, 1)) (κ₂ := K (goes σ c, 2))
    (r₁ := 0) (r₂ := 0) (c' := (goes σ c : Thread nD τ)) (src := sendM) (dst := resultM) (fd := f)
    (sS := .dma (cc0_scratch1 : DmaSems sig S_).sem) (sem := .dma (cc0_scratch2 : DmaSems sig S_).sem) (by exact mem_duties σ m c 1) (by exact mem_duties σ m (goes σ c) 2) () () credit rfl
    (by exact amount_at σ m c 1 ()) (by exact amount_at σ m (goes σ c) 2 ()) 0 (by rw [zero_add]) (W := W)
    (by rw [← hs, show (plan σ m).payload (cellAt c 1) 0 () = parcel σ m c 1 from payload_at σ m c 1 ()]; exact BI.Entails.refl _)
    (by rw [land_eq, ← hr, show (plan σ m).payload (cellAt (goes σ c) 2) 0 () = parcel σ m (goes σ c) 2 from payload_at σ m _ 2 ()]; unfold parcel arrives; dsimp only; rw [symm_goes])

/-- A wait for a station's whole round, by any operation that waits for its units: what the round hands over. -/
theorem wp_await (k : Fin 3) {w : TpuEff nD τ sig (Elt F) Λ₀ .tc PUnit} {n : ℕ} (hn : n = units k)
    (hw : ∀ R : PUnit → sProp 𝕄, wpE (defs₀ (F := F)) noVars (c : Thread nD τ) none Set.univ w R = waitSpec (c : Thread nD τ) Set.univ (stationSem k) n R)
    {α : Type} {Q : α → sProp 𝕄} {kk : PUnit → Prog (TpuEff nD τ sig (Elt F) Λ₀ .tc) α} (O : CellTallies nD τ sig Unit) (W : Waits sig Unit) :
    iprop(cellInv EX (plan σ m) (K (c, k)) (cellAt c k) ∗ cred (tallyAt (cellAt c k) () (units k)) ∗ owes (c : Thread nD τ) O W
        ∗ MayWait (c : Thread nD τ) (stationSem k) () O ∗ atPos EX (cellAt c k) 0 ∅ 0)
      ⊢ iprop(((owes (c : Thread nD τ) O (insert (stationSem k, ()) W) ∗ atPos EX (cellAt c k) 1 ∅ 0 ∗ parcel σ m c k)
            -∗ wp frame (wpE (defs₀ (F := F)) noVars (c : Thread nD τ) none) Set.univ (kk ⟨⟩) Q)
          -∗ wp frame (wpE (defs₀ (F := F)) noVars (c : Thread nD τ) none) Set.univ (.op w kk) Q) := by
  subst hn
  iintro ⟨#HI, Hc, Ho, HM, Ha⟩ Hk
  iapply (Rounds.wp_wait_rest_token noVars EX (plan σ m) (c : Thread nD τ) none (κ := K (c, k)) hw (Set.mem_univ _) () (O := O) (W := W) (R := 0) (m := 0) (T := ∅)
      (by rw [Nat.zero_add, expect_at])) $$ [Hc Ho HM Ha]
  · isplitr; · iexact HI
    isplitl [Hc]; · iexact Hc
    isplitl [Ho]; · iexact Ho
    isplitl [HM] <;> iassumption
  iintro ⟨Ho, Ha, -, Hp⟩
  ihave Hp' := (Entails.of_eq (rest_at σ m c k)) $$ Hp
  iapply Hk
  isplitl [Ho]; · iexact Ho
  isplitl [Ha] <;> iassumption

/-- A station whose round is over closes at zero. -/
theorem close_at (k : Fin 3) :
    iprop(cellInv EX (plan σ m) (K (c, k)) (cellAt c k) ∗ atPos EX (cellAt c k) 1 ∅ 0) ⊢ (|={Set.univ}=> semVal (cellAt c k) 0 : sProp 𝕄) :=
  Rounds.cell_close EX (plan σ m) (Set.mem_univ (K (c, k))) (fun h => h) (R := 0 + 1) (duties_past σ m (cellAt c k))

end Run

end Cert.Shuffle

end
-- ==== Proof.Run.lean ====
/-
# The body's run

The kernel's body on device `c`, under every device holding `σ`'s table: from what the pipeline hands it to what the
pipeline takes back, and with it the pipeline library's obligation on the body.
-/
module

public import proofs.«01_k».proof.Proof.Body

@[expose] public section

noncomputable section

namespace Cert.Shuffle

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ XGhost ℕ

variable (σ : Places) (m : Memory F) (c : Dev nD)

/-- Device `c`'s buffer `b` holds `f`, named. -/
abbrev holds (b : Ref sig .tc) (X : b.ty.Contents (Elt F)) : sProp 𝕄 :=
  iprop(∃ f : Buf (Elt F) ((c : Thread nD τ).loc b), ⌜f = X⌝ ∗ (((c : Thread nD τ).loc b) ↦{fullShare} f))

/-- A whole buffer owned at contents, in those words. -/
theorem owns_eq_holds (b : Ref sig .tc) (X : b.ty.Contents (Elt F)) :
    (owns (Ix := Unit) (Name := ℕ) (U := XGhost) (Lvl := ℕ) (c : Thread nD τ) (Memref.whole b) fullShare X : sProp 𝕄) = holds c b X := by
  unfold owns; simp only [Memref.view_whole, View.read_whole, View.set_whole]

/-- Each array is its window's one block: reading the block reads the array. -/
theorem read_table (f : IVec S4 32) : (win0_0.blk t0_0).view.read (Elt F) f = f :=
  Memref.read_access_unit_zero (Elt F) main_arg1 (off := fun a => win0_0.index t0_0 a * main_arg1.ty.shape.size a)
    (funext fun a => by fin_cases a; decide) (fun a => by fin_cases a; decide) f
/-- The one grid step's window on `x` is the whole block, -/
theorem read_x (f : Block F) : (win0_1.blk t0_0).view.read (Elt F) f = f :=
  Memref.read_access_unit_zero (Elt F) main_arg0 (off := fun a => win0_1.index t0_0 a * main_arg0.ty.shape.size a)
    (funext fun a => by fin_cases a <;> decide) (fun a => by fin_cases a <;> decide) f
/-- and so is its window on the result. -/
theorem read_result (f : Block F) : (win0_2.blk t0_0).view.read (Elt F) f = f :=
  Memref.read_access_unit_zero (Elt F) main_v1 (off := fun a => win0_2.index t0_0 a * main_v1.ty.shape.size a)
    (funext fun a => by fin_cases a <;> decide) (fun a => by fin_cases a <;> decide) f

/-- The table and the block as fetched are the arrays' contents. -/
theorem before_table (hT : Tabled σ m) (d) : (flow σ m 0 c).before (0 : Fin 3) t0_0 d = tableOf σ := by
  unfold Dat.before; rw [if_pos (fetch0_0 t0_0)]
  exact (read_table (F := F) _).trans (hT c)
/-- Before the body runs, the window on `x` holds the device's block. -/
theorem before_block (d) : (flow σ m 0 c).before (1 : Fin 3) t0_0 d = blockOf m c := by
  unfold Dat.before; rw [if_pos (fetch0_1 t0_0)]
  exact read_x (F := F) _

/-- What the two waits of the exchange wait for is what their stations are raised by. -/
theorem read_credit : (sendM : Memref sig .tc .vmem S1x256x256 .bf16).view.dmaCredit = units 1 := rfl
/-- A landing in the result's staging buffer credits a whole block's units. -/
theorem land_credit : (resultM : Memref sig .tc .vmem S1x256x256 .bf16).view.dmaCredit = units 2 := rfl

/-- What the pipeline hands the body, the invariants' names in the open, -/
def given (K : Dev nD × Fin 3 → ℕ) : sProp 𝕄 :=
  iprop(((ready σ m K c ∗ funds c) ∗ ∃ f, sendHolds c f)
    ∗ (flow σ m 0 c).owesAt () t0_0.castSucc
    ∗ (∃ d, holds c cc0_stg0_0 ((flow σ m 0 c).before (0 : Fin 3) t0_0 d))
    ∗ (∃ d, holds c cc0_stg1_0 ((flow σ m 0 c).before (1 : Fin 3) t0_0 d))
    ∗ (∃ d, holds c cc0_stg2_0 ((flow σ m 0 c).before (2 : Fin 3) t0_0 d)))

/-- and what it takes back. -/
def taken : sProp 𝕄 :=
  iprop(leaves m c ∗ (flow σ m 0 c).owesAt () t0_0.succ
    ∗ holds c cc0_stg0_0 (tableOf σ) ∗ holds c cc0_stg1_0 (blockOf m c) ∗ holds c cc0_stg2_0 (arrives σ m c))

set_option maxHeartbeats 1600000 in
/-- The body runs from the one to the other. -/
theorem body_runs (hT : Tabled σ m) (K : Dev nD × Fin 3 → ℕ) (Q : PUnit → sProp 𝕄) :
    iprop(given σ m c K ∗ (taken σ m c -∗ Q ⟨⟩))
      ⊢ wp frame (wpE (defs₀ (F := F)) noVars c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Q := by
  simp only [cc0_body_eq_skeleton]; unfold cc0_body_skel
  simp only [k0_part1_eq_skeleton]; unfold k0_part1_skel
  simp only [semSignalWord, semWaitWord, smemLoad, smemLoadElt, Prog.lift, Prog.bind_op, Prog.bind_ret, Prog.pure_eq_ret, Prog.bind_assoc, wp_deviceId]
  unfold given ready funds keys marks duties stands
  iintro ⟨⟨⟨⟨⟨⟨#HI0, #HI1, #HI2, #HIs, #HIt⟩, ⟨#HRs, #HR1, #HRt, #HR2⟩, ⟨HDs, HD1, HDt⟩, ⟨HA0, HA1, HA2⟩⟩, ⟨HC0, HC2, #HL⟩⟩, ⟨%f0, Hsend⟩⟩,
    Ho, ⟨%d0, %g0, %hg0, Htab⟩, ⟨%d1, %g1, %hg1, Hblk⟩, ⟨%d2, %g2, %hg2, Hres⟩⟩, Hk⟩
  rw [before_table σ m c hT] at hg0; subst hg0
  rw [before_block] at hg1; subst hg1
  unfold Dat.owesAt Pipeline.owesWithin
  icases Ho with ⟨%W, %hW, Ho⟩
  rw [show (flow σ m 0 c).owed t0_0.castSucc = owesAll σ c from rfl]
  iapply (wp_load_rect noVars (c : Thread nD τ) none Set.univ (m := tableM) (r := Rect.unit (s := S4) (k0_off1 c) S1.size (k0_off1_inb c)) (Finset.subset_univ _)) $$ Htab; iintro Htab
  rw [word_at σ (k0_off1 c) _ (place c) (by rw [k0_off1_eq]; rfl)]
  simp only [wp_assume_of _ _ _ _ (d := k0_chk2.dec _ _) (chk2_word c (σ (place c)))]
  iapply (wp_load_rect noVars (c : Thread nD τ) none Set.univ (m := tableM) (r := Rect.unit (s := S4) (![0]) S1.size (inb_S4_S1_0)) (Finset.subset_univ _)) $$ Htab; iintro Htab
  rw [word_at σ (![0]) _ 0 rfl]
  iapply (wp_load_rect noVars (c : Thread nD τ) none Set.univ (m := tableM) (r := Rect.unit (s := S4) (![1]) S1.size (inb_S4_S1_1)) (Finset.subset_univ _)) $$ Htab; iintro Htab
  rw [word_at σ (![1]) _ 1 rfl]
  iapply (wp_load_rect noVars (c : Thread nD τ) none Set.univ (m := tableM) (r := Rect.unit (s := S4) (![2]) S1.size (inb_S4_S1_2)) (Finset.subset_univ _)) $$ Htab; iintro Htab
  rw [word_at σ (![2]) _ 2 rfl]
  iapply (wp_load_rect noVars (c : Thread nD τ) none Set.univ (m := tableM) (r := Rect.unit (s := S4) (![3]) S1.size (inb_S4_S1_3)) (Finset.subset_univ _)) $$ Htab; iintro Htab
  rw [word_at σ (![3]) _ 3 rfl]
  simp only [wp_assume_of _ _ _ _ (d := k0_chk1.dec _ _ _ _ _) (chk1_words σ c)]
  -- the signal, with the result's staging buffer
  iapply (wp_ready σ m K c _ (Fin.ext (dev1_words σ c)) g2 W) $$ [Ho HDs Hres]
  · isplitr; · iexact HIs
    isplitl [Ho]; · iexact Ho
    isplitl [HDs]; · iexact HDs
    isplitl [Hres]
    · isplitl [Hres]; · unfold resultHolds; iexact Hres
      iexact HR2
    · iexact HRs
  iintro Ho
  -- the block into the send buffer
  iapply (wp_load noVars (c : Thread nD τ) none Set.univ (m := blockM) (Finset.subset_univ _)) $$ Hblk; iintro Hblk
  rw [read_block]
  unfold sendHolds
  iapply (wp_load noVars (c : Thread nD τ) none Set.univ (m := sendM) (Finset.subset_univ _)) $$ Hsend; iintro Hsend
  iapply (wp_store noVars (c : Thread nD τ) none Set.univ (m := sendM) (r := wholeRect) (Mk := Finset.univ) (Finset.subset_univ _)) $$ Hsend; iintro Hsend
  rw [pay_eq, write_send]
  -- the wait for the barrier, and with it the other device's staging buffer
  iapply (wp_await σ m K c 0 rfl (wpE_semWait_eq noVars (c : Thread nD τ) none Set.univ) (owesSend σ c) W) $$ [HC0 Ho HA0]
  · isplitr; · iexact HI0
    isplitl [HC0]; · iexact HC0
    isplitl [Ho]; · iexact Ho
    isplitr; · iapply (mayWait_barrier σ c); iexact HL
    iexact HA0
  iintro ⟨Ho, HA0, Hp⟩
  unfold parcel
  icases Hp with ⟨⟨%f, Hto⟩, -⟩
  -- the transfer
  iapply (wp_transfer σ m K c _ (Fin.ext (dev2_words σ c)) f _) $$ [Hsend Hto Ho HD1 HDt]
  · isplitr; · iexact HI1
    isplitr; · iexact HIt
    isplitl [Hsend]; · unfold sendHolds; iexact Hsend
    isplitl [Hto]; · iexact Hto
    isplitl [Ho]; · iexact Ho
    isplitl [HD1]; · iexact HD1
    isplitr; · iexact HR1
    isplitl [HDt]; · iexact HDt
    iexact HRt
  iintro ⟨HC1, Ho⟩
  -- the wait for the read of the send buffer, which comes back
  iapply (wp_await σ m K c 1 read_credit (wpE_waitDma2_eq noVars (c : Thread nD τ) none Set.univ) 0 _) $$ [HC1 Ho HA1]
  · isplitr; · iexact HI1
    isplitl [HC1]; · iexact HC1
    isplitl [Ho]; · iexact Ho
    isplitr; · rw [MayWait_zero]; iempintro
    iexact HA1
  iintro ⟨Ho, HA1, Hsend⟩
  -- the wait for the landing, with which the staging buffer comes back
  iapply (wp_await σ m K c 2 land_credit (wpE_waitDma2_eq noVars (c : Thread nD τ) none Set.univ) 0 _) $$ [HC2 Ho HA2]
  · isplitr; · iexact HI2
    isplitl [HC2]; · iexact HC2
    isplitl [Ho]; · iexact Ho
    isplitr; · rw [MayWait_zero]; iempintro
    iexact HA2
  iintro ⟨Ho, HA2, Hres⟩
  -- the stations close
  imod (close_at σ m K c 0) $$ [HA0] with HZ0
  · isplitr; · iexact HI0
    iexact HA0
  imod (close_at σ m K c 1) $$ [HA1] with HZ1
  · isplitr; · iexact HI1
    iexact HA1
  imod (close_at σ m K c 2) $$ [HA2] with HZ2
  · isplitr; · iexact HI2
    iexact HA2
  rw [wp_ret]; imodintro
  iapply Hk
  unfold taken leaves Dat.owesAt Pipeline.owesWithin
  rw [show (flow σ m 0 c).owed t0_0.succ = 0 from rfl]
  isplitl [Hsend HZ0 HZ1 HZ2]
  · isplitl [Hsend]
    · iapply (show parcel σ m c 1 ⊢ (sendHolds c (blockOf m c) : sProp 𝕄) from BI.Entails.refl _); iexact Hsend
    isplitl [HZ0]; · iexact HZ0
    isplitl [HZ1] <;> iassumption
  isplitl [Ho]
  · iexists (insert (stationSem 2, ()) (insert (stationSem 1, ()) (insert (stationSem 0, ()) W)))
    isplitr; · ipureintro; exact fun _ _ => Or.inl trivial
    iexact Ho
  isplitl [Htab]
  · iexists _; isplitr; · (ipureintro; rfl)
    iexact Htab
  isplitl [Hblk]
  · iexists _; isplitr; · (ipureintro; rfl)
    iexact Hblk
  iexists (arrives σ m c); isplitr; · (ipureintro; rfl)
  iapply (show parcel σ m c 2 ⊢ (((c : Thread nD τ).loc cc0_stg2_0) ↦{fullShare} arrives σ m c : sProp 𝕄) from BI.Entails.refl _); iexact Hres

/-- The three windows one by one. -/
theorem windows (Φ : Fin cfg0.W → sProp 𝕄) : bigSep Finset.univ Φ = iprop(Φ (0 : Fin 3) ∗ Φ (1 : Fin 3) ∗ Φ (2 : Fin 3)) := bigSep_W0 Φ

/-- The pipeline library's obligation on the body. -/
theorem body_ok (hT : Tabled σ m) : BodyObligation (flow (F := F) σ m 0 c) (defs₀ (F := F)) noVars () Set.univ := fun t => by
  rw [fin_N0 t, windows, windows]
  simp only [owns_eq_holds]
  show iprop((entry σ m c ∗ ∃ f, sendHolds c f) ∗ (flow σ m 0 c).owesAt () t0_0.castSucc
      ∗ (∃ d, holds c cc0_stg0_0 ((flow σ m 0 c).before (0 : Fin 3) t0_0 d))
      ∗ (∃ d, holds c cc0_stg1_0 ((flow σ m 0 c).before (1 : Fin 3) t0_0 d))
      ∗ (∃ d, holds c cc0_stg2_0 ((flow σ m 0 c).before (2 : Fin 3) t0_0 d)))
    ⊢ wp frame (wpE (defs₀ (F := F)) noVars c none) Set.univ
        (cc0_body (Memref.whole cc0_stg0_0) (Memref.isWhole_whole _) (Memref.whole cc0_stg1_0) (Memref.isWhole_whole _)
          (Memref.whole cc0_stg2_0) (Memref.isWhole_whole _) (Memref.whole cc0_scratch0) (Memref.isWhole_whole _) cc0_scratch1 cc0_scratch2)
        fun _ => taken σ m c
  unfold entry
  iintro ⟨⟨⟨⟨%K, Hr⟩, Hf⟩, Hs⟩, Hrest⟩
  iapply (body_runs σ m c hT K fun _ => taken σ m c)
  unfold given
  isplitr []
  · isplitl [Hr Hf Hs]
    · isplitl [Hr Hf]
      · isplitl [Hr] <;> iassumption
      · iexact Hs
    · iexact Hrest
  · iintro H; iexact H

end Cert.Shuffle

end
-- ==== Proof.Launch.lean ====
/-
# The launch

The stations of all devices are set up at once, each station's tokens dealt to the device that pays its duty, and the
launch theorem of the pipeline library gives the run of the whole program: every weakly fair execution ends, in a
memory where the arguments are unchanged, every device's result is the block of the device it receives from, and every
semaphore is zero.
-/
module

public import proofs.«01_k».proof.Proof.Run
public import Idealize.ShloMosaic.Lib.Pipeline.CollectiveSegs

@[expose] public section

noncomputable section

namespace Cert.Shuffle

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ XGhost ℕ

variable (σ : Places) (m : Memory F)

/-! ## The stations as one family -/

/-- All stations of the mesh. -/
def stations : Finset (GSem nD τ sig) :=
  Finset.univ.map ⟨fun ck : Dev nD × Fin 3 => cellAt ck.1 ck.2, fun _ _ h => Prod.ext (cellAt_inj h).1 (cellAt_inj h).2⟩

/-- The one duty of every station. -/
def stationDuties : Finset (GSem nD τ sig × ℕ × Unit) :=
  Finset.univ.map ⟨fun ck : Dev nD × Fin 3 => (cellAt ck.1 ck.2, 0, ()),
    fun _ _ h => have e := congrArg Prod.fst h; Prod.ext (cellAt_inj e).1 (cellAt_inj e).2⟩

/-- The scoped stations, as the launch theorem numbers them. -/
abbrev ownStations : Fin 2 → SemLoc sig := fun | 0 => stationSem 1 | 1 => stationSem 2

/-- The two copy semaphores are distinct and belong to the call. -/
theorem ownStations_facts : Pipeline.OwnSemFacts cfg0.spec ownStations := by decide

/-- A conjunction over the three stations, written out. -/
theorem three (Φ : Fin 3 → sProp 𝕄) : bigSep Finset.univ Φ = iprop(Φ 0 ∗ Φ 1 ∗ Φ 2) :=
  bigSep_univ_eq_bigSepL [0, 1, 2] (by decide) (by decide) Φ

/-- A conjunction over the stations is one over devices and numbers. -/
theorem over_stations (Φ : GSem nD τ sig → sProp 𝕄) :
    bigSep stations Φ = bigSep Finset.univ fun c : Dev nD => bigSep Finset.univ fun k : Fin 3 => Φ (cellAt c k) := by
  unfold stations; rw [bigSep_map, bigSep_univ_prod]; rfl
/-- A conjunction over all duties is one over devices and stations. -/
theorem over_duties (Φ : GSem nD τ sig × ℕ × Unit → sProp 𝕄) :
    bigSep stationDuties Φ = bigSep Finset.univ fun c : Dev nD => bigSep Finset.univ fun k : Fin 3 => Φ (cellAt c k, 0, ()) := by
  unfold stationDuties; rw [bigSep_map, bigSep_univ_prod]; rfl

/-! ## Setting the stations up -/

/-- The launch's ghost element. -/
def seed : XGhost := (initOf (Pipeline.cells cfgs cellOf_inj) (Pipeline.launchToks cfgs cellOf_inj), initOf stations stationDuties)

/-- Device `c`'s share of it: its stations' states, its standing at them, their duties' tokens. -/
def dealt (c : Dev nD) : sProp 𝕄 :=
  iprop((bigSep Finset.univ fun k : Fin 3 => roundState EX (plan σ m) (cellAt c k) 0)
    ∗ (bigSep Finset.univ fun k : Fin 3 => iprop(atPos EX (cellAt c k) 0 ∅ 0 ∗ reached EX (cellAt c k) 0))
    ∗ bigSep Finset.univ fun k : Fin 3 => dutyTok EX (cellAt c k) 0 ())

/-- The ghost state of all stations, dealt out to the devices. -/
theorem deal : BI.own (EX (initOf stations stationDuties)) ⊢ (|==> bigSep Finset.univ (dealt σ m) : sProp 𝕄) := by
  iintro HX
  imod (Rounds.fund EX (plan σ m) stations stationDuties) $$ HX with ⟨Hst, Hr, Hat, Htok⟩
  imodintro
  ihave Hst := (Entails.of_eq (over_stations fun g => roundState EX (plan σ m) g 0)) $$ Hst
  ihave Hat := (Entails.of_eq (over_stations fun g => atPos EX g 0 ∅ 0)) $$ Hat
  ihave Hr := (Entails.of_eq (over_stations fun g => reached EX g 0)) $$ Hr
  ihave Htok := (Entails.of_eq (over_duties fun x => dutyTok EX x.1 x.2.1 x.2.2)) $$ Htok
  unfold dealt; simp only [bigSep_sep']
  isplitl [Hst]; · iexact Hst
  isplitl [Hat Hr]
  · isplitl [Hat] <;> iassumption
  iexact Htok

/-- The two scoped stations and the barrier are the three stations at zero. -/
theorem own_eq (c : Dev nD) :
    (Pipeline.ownSems0 (Ix := Unit) (Name := ℕ) (U := XGhost) (Lvl := ℕ) (Val := Elt F) (τ := τ) ownStations c : sProp 𝕄)
      = iprop(semVal (cellAt c 1) 0 ∗ semVal (cellAt c 2) 0) := by
  rw [Pipeline.ownSems0_eq_of_list c ownStations [0, 1] (by decide) (by decide)]; rfl
/-- The one semaphore outside the call is the barrier, at zero. -/
theorem barrier_eq (c : Dev nD) : (unscopedSems0 c : sProp 𝕄) = semVal (cellAt c 0) 0 := by
  unfold unscopedSems0; rw [bigSep_eq_bigSepL_of_eq [stationSem 0] (by decide) (by decide)]; rfl

/-- What a device's set-up leaves: its stations' invariants, its standing, the tokens. -/
def built (c : Dev nD) : sProp 𝕄 :=
  iprop((bigSep Finset.univ fun k : Fin 3 => iprop(∃ κ : ℕ, cellInv EX (plan σ m) κ (cellAt c k)))
    ∗ (bigSep Finset.univ fun k : Fin 3 => iprop(atPos EX (cellAt c k) 0 ∅ 0 ∗ reached EX (cellAt c k) 0))
    ∗ bigSep Finset.univ fun k : Fin 3 => dutyTok EX (cellAt c k) 0 ())

/-- A station's state and its counter at zero make its invariant. -/
theorem build_one (c : Dev nD) (k : Fin 3) :
    iprop(semVal (cellAt c k) 0 ∗ roundState EX (plan σ m) (cellAt c k) 0)
      ⊢ (|={Set.univ}=> ∃ κ : ℕ, cellInv EX (plan σ m) κ (cellAt c k) : sProp 𝕄) :=
  (Rounds.body_intro EX (plan σ m) (cellAt c k)).trans inv_alloc

/-- A device turns its counters at zero, with what it was dealt, into its three invariants. -/
theorem build (c : Dev nD) :
    iprop(Pipeline.ownSems0 (Ix := Unit) (Name := ℕ) (U := XGhost) (Lvl := ℕ) (Val := Elt F) (τ := τ) ownStations c ∗ unscopedSems0 c ∗ dealt σ m c)
      ⊢ |={Set.univ}=> built σ m c := by
  unfold dealt built
  rw [own_eq, barrier_eq, three (fun k => roundState EX (plan σ m) (cellAt c k) 0),
    three (fun k => iprop(∃ κ : ℕ, cellInv EX (plan σ m) κ (cellAt c k)))]
  iintro ⟨⟨H1, H2⟩, H0, ⟨S0, S1, S2⟩, Hat, Htok⟩
  imod (build_one σ m c 0) $$ [H0 S0] with I0
  · isplitl [H0] <;> iassumption
  imod (build_one σ m c 1) $$ [H1 S1] with I1
  · isplitl [H1] <;> iassumption
  imod (build_one σ m c 2) $$ [H2 S2] with I2
  · isplitl [H2] <;> iassumption
  imodintro
  isplitl [I0 I1 I2]
  · isplitl [I0]; · iexact I0
    isplitl [I1] <;> iassumption
  isplitl [Hat] <;> iassumption

/-! ## Dealing the tokens to the payers -/

/-- What everyone may know: the invariants under one choice of names, and that every station is at its round. -/
def common (K : Dev nD × Fin 3 → ℕ) : sProp 𝕄 :=
  iprop((bigSep Finset.univ fun ck : Dev nD × Fin 3 => cellInv EX (plan σ m) (K ck) (cellAt ck.1 ck.2))
    ∗ bigSep Finset.univ fun ck : Dev nD × Fin 3 => reached EX (cellAt ck.1 ck.2) 0)

instance common_persistent (K : Dev nD × Fin 3 → ℕ) : BI.Persistent (common σ m K) := by unfold common; infer_instance

/-- Each station's invariant is among what all devices share, -/
theorem common_inv (K : Dev nD × Fin 3 → ℕ) (c : Dev nD) (k : Fin 3) : common σ m K ⊢ cellInv EX (plan σ m) (K (c, k)) (cellAt c k) := by
  unfold common; iintro ⟨H, -⟩; iapply (show (bigSep Finset.univ fun ck : Dev nD × Fin 3 => (cellInv EX (plan σ m) (K ck) (cellAt ck.1 ck.2) : sProp 𝕄))
    ⊢ cellInv EX (plan σ m) (K (c, k)) (cellAt c k) from bigSep_elim (Finset.mem_univ (c, k))); iexact H
/-- and so is that it is at its first round. -/
theorem common_reached (K : Dev nD × Fin 3 → ℕ) (c : Dev nD) (k : Fin 3) : common σ m K ⊢ reached EX (cellAt c k) 0 := by
  unfold common; iintro ⟨-, H⟩; iapply (show (bigSep Finset.univ fun ck : Dev nD × Fin 3 => (reached EX (cellAt ck.1 ck.2) 0 : sProp 𝕄))
    ⊢ reached EX (cellAt c k) 0 from bigSep_elim (Finset.mem_univ (c, k))); iexact H

/-- That a device is ready, under some names. -/
def able (c : Dev nD) : sProp 𝕄 := iprop(∃ K, ready σ m K c)

/-- A device gets ready from what everyone may know, its duties and its standing. -/
theorem get_ready (K : Dev nD × Fin 3 → ℕ) (c : Dev nD) : iprop(common σ m K ∗ duties σ c ∗ stands c) ⊢ able σ m c := by
  unfold able ready keys marks
  iintro ⟨#H, Hd, Hs⟩
  iexists K
  isplitr
  · isplitr; · iapply (common_inv σ m K c 0); iexact H
    isplitr; · iapply (common_inv σ m K c 1); iexact H
    isplitr; · iapply (common_inv σ m K c 2); iexact H
    isplitr; · iapply (common_inv σ m K (goes σ.symm c) 0); iexact H
    iapply (common_inv σ m K (goes σ c) 2); iexact H
  isplitr
  · isplitr; · iapply (common_reached σ m K (goes σ.symm c) 0); iexact H
    isplitr; · iapply (common_reached σ m K c 1); iexact H
    isplitr; · iapply (common_reached σ m K (goes σ c) 2); iexact H
    iapply (common_reached σ m K c 2); iexact H
  isplitl [Hd] <;> iassumption

/-- The tokens go to the payers: a barrier's to the device that will fill that device's send, a landing's to the sender. -/
theorem tokens_dealt : (bigSep Finset.univ fun c : Dev nD => bigSep Finset.univ fun k : Fin 3 => (dutyTok EX (cellAt c k) 0 () : sProp 𝕄))
    ⊢ bigSep Finset.univ fun c : Dev nD => (duties σ c : sProp 𝕄) := by
  unfold duties
  simp only [three, bigSep_sep']
  rw [bigSep_univ_equiv (traffic σ).symm (fun c : Dev nD => (dutyTok EX (cellAt c 0) 0 () : sProp 𝕄)),
    bigSep_univ_equiv (traffic σ) (fun c : Dev nD => (dutyTok EX (cellAt c 2) 0 () : sProp 𝕄))]
  exact BI.Entails.refl _

/-- What the devices built, shared and redistributed: each pays the duties that are its own. -/
theorem spread : (bigSep Finset.univ (built σ m)) ⊢ bigSep Finset.univ (able σ m) := by
  unfold built
  rw [bigSep_sep', bigSep_sep', ← bigSep_univ_prod (fun ck : Dev nD × Fin 3 => iprop(∃ κ : ℕ, cellInv EX (plan σ m) κ (cellAt ck.1 ck.2)))]
  iintro ⟨HI, Hat, Htok⟩
  ihave HK := (BI.bigSep_exists_pi Finset.univ (fun (ck : Dev nD × Fin 3) (κ : ℕ) => (cellInv EX (plan σ m) κ (cellAt ck.1 ck.2) : sProp 𝕄))) $$ HI
  icases HK with ⟨%K, HI⟩
  ihave Hd := (tokens_dealt (F := F) σ) $$ Htok
  ihave Hs := (show (bigSep Finset.univ fun c : Dev nD => bigSep Finset.univ fun k : Fin 3 => iprop(atPos EX (cellAt c k) 0 ∅ 0 ∗ reached EX (cellAt c k) 0) : sProp 𝕄)
      ⊢ iprop((bigSep Finset.univ fun c : Dev nD => stands c) ∗ bigSep Finset.univ fun ck : Dev nD × Fin 3 => reached EX (cellAt ck.1 ck.2) 0) from by
        unfold stands
        rw [bigSep_univ_prod (fun ck : Dev nD × Fin 3 => (reached EX (cellAt ck.1 ck.2) 0 : sProp 𝕄)), ← bigSep_sep']
        refine bigSep_mono fun c _ => ?_
        rw [bigSep_sep', three fun k => atPos EX (cellAt c k) 0 ∅ 0]
        exact BI.Entails.refl _) $$ Hat
  icases Hs with ⟨Hs, HR⟩
  ihave HC := (show iprop((bigSep Finset.univ fun ck : Dev nD × Fin 3 => cellInv EX (plan σ m) (K ck) (cellAt ck.1 ck.2))
    ∗ bigSep Finset.univ fun ck : Dev nD × Fin 3 => reached EX (cellAt ck.1 ck.2) 0) ⊢ (common σ m K : sProp 𝕄) from BI.Entails.refl _) $$ [HI HR]
  · isplitl [HI] <;> iassumption
  iapply (show iprop(common σ m K ∗ (bigSep Finset.univ fun c : Dev nD => duties σ c) ∗ bigSep Finset.univ fun c : Dev nD => stands c)
      ⊢ bigSep Finset.univ (able σ m) from by
    refine (sep_mono_left (BI.bigSep_of_persistent (Finset.univ : Finset (Dev nD)) (common σ m K))).trans ?_
    rw [← bigSep_sep', ← bigSep_sep']
    exact bigSep_mono fun c _ => get_ready σ m K c)
  isplitl [HC]; · iexact HC
  isplitl [Hd] <;> iassumption

/-- All devices' set-up in one step. -/
theorem setup :
    (bigSep Finset.univ fun c => iprop(Pipeline.ownSems0 (Ix := Unit) (Name := ℕ) (U := XGhost) (Lvl := ℕ) (Val := Elt F) (τ := τ) ownStations c ∗ unscopedSems0 c ∗ dealt σ m c) : sProp 𝕄)
      ⊢ |={Set.univ}=> bigSep Finset.univ (able σ m) :=
  ((bigSep_mono fun c _ => build σ m c).trans (bigSep_fupd _ _)).trans (BI.fupd_mono (spread σ m))

/-! ## The credit at launch -/

/-- A device is owed what one other owes it: to its landing the device it receives from, -/
theorem owed_landing (d c : Dev nD) : owesAll σ d (cellAt c 2) () = if d = goes σ.symm c then units 2 else 0 := by
  unfold owesAll owesSend
  rw [Pi.add_apply, Finsupp.add_apply, tallyAt_apply, tallyAt_apply,
    if_neg (fun h : cellAt c 2 = cellAt (goes σ.symm d) 0 ∧ () = () => absurd (cellAt_inj h.1).2 (by decide)), Nat.add_zero]
  refine if_congr ⟨fun h => ?_, fun h => ⟨?_, rfl⟩⟩ rfl rfl
  · rw [(cellAt_inj h.1).1, symm_goes]
  · rw [h, goes_symm]
/-- to its barrier the device it sends to. -/
theorem owed_barrier (d c : Dev nD) : owesAll σ d (cellAt c 0) () = if d = goes σ c then units 0 else 0 := by
  unfold owesAll owesSend
  rw [Pi.add_apply, Finsupp.add_apply, tallyAt_apply, tallyAt_apply,
    if_neg (fun h : cellAt c 0 = cellAt (goes σ d) 2 ∧ () = () => absurd (cellAt_inj h.1).2 (by decide)), Nat.zero_add]
  refine if_congr ⟨fun h => ?_, fun h => ⟨?_, rfl⟩⟩ rfl rfl
  · rw [(cellAt_inj h.1).1, goes_symm]
  · rw [h, symm_goes]

/-- If one device owes a station its units and no other device owes it any, that is the station's credit. -/
theorem credit_of (c e : Dev nD) (k : Fin 3) (h : ∀ d, owesAll σ d (cellAt c k) () = if d = e then units k else 0) :
    tallyOn (cellAt c k) (launchCredit (Pipeline.owing (owesAll σ)) 0 (cellAt c k)) = (tallyAt (cellAt c k) () (units k) : CellTallies nD τ sig Unit) := by
  unfold tallyAt; refine congrArg _ (Finsupp.ext fun u => ?_); cases u
  rw [Pipeline.launchCredit_owing, Finsupp.single_eq_same, Finset.sum_congr rfl fun d _ => h d,
    Finset.sum_ite_eq' Finset.univ e fun _ => units k, if_pos (Finset.mem_univ _)]

/-- A device's credits at launch: for its barrier and for its landing. -/
theorem credits (c : Dev nD) :
    (Pipeline.launchCred (owesAll σ) c : sProp 𝕄) ⊢ iprop(cred (tallyAt (cellAt c 0) () (units 0)) ∗ cred (tallyAt (cellAt c 2) () (units 2))) := by
  unfold Pipeline.launchCred
  rw [bigSep_univ_at _ (stationSem 0), credit_of σ c _ 0 fun d => owed_barrier σ d c, ← credit_of σ c _ 2 fun d => owed_landing σ d c]
  exact sep_mono_right (bigSep_elim (Finset.mem_erase.mpr ⟨by decide, Finset.mem_univ _⟩))

/-! ## The launch theorem's conditions -/

variable (ρ : Dev nD → PrngReg)

/-- What a device holds as the call begins. -/
theorem enters (c : Dev nD) :
    iprop(Pipeline.unscopedRestP Pipeline.Prefetch.none cfg0.spec c (fun b => m ((c : Thread nD τ).loc b)) ∗ levAts tags level
        ∗ Pipeline.launchCred (owesAll σ) c ∗ prngReg c (ρ c) ∗ able σ m c)
      ⊢ |={Set.univ}=> iprop(entry σ m c ∗ emp) := by
  iintro ⟨-, HL, Hc, -, HA⟩
  ihave Hc := (credits (F := F) σ c) $$ Hc
  icases Hc with ⟨H0, H2⟩
  imodintro
  unfold entry funds able
  isplitl
  · isplitl [HA]; · iexact HA
    isplitl [H0]; · iexact H0
    isplitl [H2] <;> iassumption
  · iempintro

/-- What the body's invariant needs before the first step is at hand. -/
theorem starts (c : Dev nD) :
    iprop(entry σ m c ∗ Pipeline.prefHeld Pipeline.Prefetch.none c (fun _ => fullShare.right) (fun k => k.elim0) ∗ Pipeline.scopedRest cfg0.spec c)
      ⊢ (flow σ m 0 c).Φ 0 := by
  rw [show (flow σ m 0 c).Φ 0 = iprop(entry σ m c ∗ ∃ f, sendHolds c f) from rfl, scopedRest0_eq]
  unfold sendHolds
  iintro ⟨H, -, Hs⟩
  isplitl [H] <;> iassumption

/-- After the last step every counter is back at zero and all buffers are returned. -/
theorem ends (c : Dev nD) :
    (flow σ m 0 c).Φ (Fin.last cfg0.N) ⊢ iprop(unscopedSems0 c ∗ Pipeline.ownSems0 ownStations c ∗ Pipeline.scopedRest cfg0.spec c) := by
  rw [show (flow σ m 0 c).Φ (Fin.last cfg0.N) = leaves m c from rfl, scopedRest0_eq, own_eq, barrier_eq]
  unfold leaves sendHolds
  iintro ⟨Hs, H0, H1, H2⟩
  isplitl [H0]; · iexact H0
  isplitl [H1 H2]
  · isplitl [H1] <;> iassumption
  iexists (blockOf m c); iexact Hs

/-- The staging copies' waits lie below all that a device owes. -/
theorem may_stage (c : Dev nD) : (levAts tags level : sProp 𝕄) ⊢ Pipeline.cellsWaits cfgs (flow σ m) () 0 c :=
  Pipeline.cellsWaits_intro cfgs (flow σ m) () 0 c fun w s t =>
    mayWait_other σ c _ (by fin_cases w <;> fin_cases s <;> decide) _ (by
      rcases t with ⟨_ | _, _⟩
      · exact .inl rfl
      · exact .inr rfl)

/-- Every window is held whole. -/
theorem share_full (c : Dev nD) (w : Fin cfg0.W) : (flow σ m 0 c).share w = fullShare := by unfold Dat.share; split <;> rfl

/-! ## The run -/

/-- What device `c`'s window `w` of the arrays ends up as. -/
def arrayAt (c : Dev nD) (w : Fin cfg0.W) : Buf (Elt F) ((cfg0.win w).arr.view.loc (c : Thread nD τ)) := (flow σ m 0 c).arrAt w cfg0.N

set_option maxRecDepth 8000 in
/-- Under `σ`'s table on every device, for any float values, from any memory with zero counters: every weakly fair execution
    of the program ends, with every array at its final contents and every semaphore at zero. -/
theorem run_arrays (hT : Tabled σ m) :
    θ_run defs (onTc (τ := τ) (main (F := F))) ⟨m, fun _ => 0, ρ⟩
      (fun r => (∀ (c : Dev nD) (w : Fin cfg0.W), r.2.mem ((cfg0.win w).arr.view.loc (c : Thread nD τ)) = arrayAt σ m c w) ∧ r.2.sem = fun _ => 0) :=
  Pipeline.θ_run_region_owing_glob_pf (fun p => (cfgs p).toPCfg) (fun p => (cfgs p).toPCfg_adm) (flow σ m) () cellOf_inj (0 : Fin 1)
    winFacts0.to₀ ownStations_facts (Pipeline.PreFacts.none _) EPipe defs₀ noVars m ρ main
    (hmain := fun _ => rfl)
    (hbody := fun c => body_ok σ m c hT) (hne := block_pos0) (harr := arr_whole0) (hstage := stage_whole0) (hshare := share_full σ m)
    (hdistinct := winFacts0.arr_inj)
    (O₀ := owesAll σ) (howed₀ := fun _ => rfl) (howedN := fun _ => rfl)
    (L := tags) (lv := level) (hL := tags_other) (hwaits := may_stage σ m)
    (G := dealt σ m) (G' := able σ m) (u₀ := seed)
    (hu₀ := by
      unfold seed
      iintro Hu
      ihave H := (ownU_pair _ _) $$ Hu
      icases H with ⟨HP, HX⟩
      imod (deal σ m) $$ HX with HG
      imodintro
      isplitl [HP] <;> iassumption)
    (hglob := setup σ m)
    (hA := fun _ _ => rfl) (hpf := fun _ k => k.elim0)
    (X := entry σ m) (Y := fun c => unscopedSems0 c) (Z := fun _ => iprop(emp))
    (hX := enters σ m ρ) (hin := starts σ m) (hout := ends σ m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result array is its window's one block, and the body left that at what arrived. -/
theorem array_result (c : Dev nD) : arrayAt σ m c (2 : Fin 3) = arrives σ m c := by
  refine (read_result (F := F) (arrayAt σ m c (2 : Fin 3))).symm.trans ?_
  unfold arrayAt
  rw [show cfg0.N = (t0_0 : Fin cfg0.N).val + 1 from rfl, (flow σ m 0 c).arrAt_succ (2 : Fin 3) t0_0, if_pos (flush0_2 t0_0)]
  exact View.read_write_univ _ _

/-- The program's run: the arguments are unchanged, each device's result is the block of the device it receives from,
    every semaphore is zero. -/
theorem runs (hT : Tabled σ m) :
    θ_run defs (onTc (τ := τ) (main (F := F))) ⟨m, fun _ => 0, ρ⟩
      (fun r => (∀ c : Dev nD, r.2.mem ((c : Thread nD τ).loc main_v1) = arrives σ m c
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  (θ_run defs _ _).mono (fun r h => ⟨fun c => ⟨(h.1 c (2 : Fin 3)).trans (array_result σ m c),
    (h.1 c (1 : Fin 3)).trans ((flow σ m 0 c).arrAt_in (1 : Fin 3) rfl _),
    (h.1 c (0 : Fin 3)).trans ((flow σ m 0 c).arrAt_in (0 : Fin 3) rfl _)⟩, h.2⟩) (run_arrays σ m ρ hT)

end Cert.Shuffle

end
-- ==== Proof.Reference.lean ====
/- The run of the reference program, and what its result is.

   The reference is one straight line of operations on one device. From any memory it ends with its arguments
   unchanged and its result at `shuffled` of them (`run_reference`). When the table is that of a permutation `σ`,
   sorting the table's positions by their entries lists them as `σ.symm` does (`argsorted`), so entry `k` of the
   result is entry `σ.symm k` of the array (`shuffled_apply`). -/
module

public import proofs.«01_k».proof.Proof.Protocol
public import proofs.«01_k».proof.Proof.Gen.ReferenceIdeal
public import Idealize.ShloMosaic.Lib.StableHlo.Run
public import Idealize.ShloMosaic.Lib.Quiescent
public import Idealize.ShloMosaic.Lib.Routing.SortLink

@[expose] public section

noncomputable section

namespace Cert.Shuffle.Ref

open Cert.ReferenceIdeal Cert.ReferenceIdeal.Gen
open Idealize.ShloMosaic Idealize.ShloMosaic.TcCoe Idealize.ShloMosaic.StableHlo Idealize.SL.Sem

variable {F : FTy → Type} [FloatOps F]

/-! ## The run -/

/-- The positions of the table, listed so that their entries ascend. -/
def order (t : IVec S4 32) : IVec S4 32 := (Host.sort2 S4 0 comparator_i32_i32_d0 t (iotaInDim S4 32 0)).2

/-- A position counted from the end, where it is negative, counted from the start. -/
def fromStart (p : IVec S4 32) : IVec S4 32 :=
  select (cmpi .slt p (broadcastInDim S4 ![] bcast_S_S4 (constantI S_ 32 0#32)))
    (addi p (broadcastInDim S4 ![] bcast_S_S4 (constantI S_ 32 4#32))) p

/-- The entries of the array that a list of positions names. -/
def taken (x : FVec F S4x256x256 .bf16) (p : IVec S4 32) : FVec F S4x256x256 .bf16 :=
  Host.gather gather_S4x256x256_S4x1_S4x256x256_12_0_n_n_0_1_1256256 x (broadcastInDim S4x1 ![0] bcast_S4_S4x1_0 p)

/-- The reference's result from its two arguments. -/
def shuffled (x : FVec F S4x256x256 .bf16) (t : IVec S4 32) : FVec F S4x256x256 .bf16 :=
  truncf .bf16 (extf .f32 (taken x (fromStart (order t))) bitsLt_bf16_f32) bitsLt_bf16_f32

/-- The reference's operations, in order. -/
abbrev ops : List (HloOp τ sig (Elt F)) :=
  [ nullary main_call0_v0 (iotaInDim S4 32 0),
    binary main_arg1 main_call0_v0 main_call0_v1_0 (fun x y => (Host.sort2 S4 0 comparator_i32_i32_d0 x y).1),
    binary main_arg1 main_call0_v0 main_v0 (fun x y => (Host.sort2 S4 0 comparator_i32_i32_d0 x y).2),
    nullary main_c (constantI S_ 32 0#32),
    unary main_c main_v1 (broadcastInDim S4 ![] bcast_S_S4),
    binary main_v0 main_v1 main_v2 (cmpi .slt),
    nullary main_c_0 (constantI S_ 32 4#32),
    unary main_c_0 main_v3 (broadcastInDim S4 ![] bcast_S_S4),
    binary main_v0 main_v3 main_v4 addi,
    ternary main_v2 main_v4 main_v0 main_v5 select,
    unary main_v5 main_v6 (broadcastInDim S4x1 ![0] bcast_S4_S4x1_0),
    binary main_arg0 main_v6 main_v7
      (fun x i => Host.gather gather_S4x256x256_S4x1_S4x256x256_12_0_n_n_0_1_1256256 x i),
    unary main_v7 main_v8 (extf .f32 · bitsLt_bf16_f32),
    unary main_v8 main_v9 (truncf .bf16 · bitsLt_bf16_f32) ]

/-- The reference is that straight line. -/
theorem main_eq (c : Dev nD) : main (F := F) c = seq ops := rfl

/-- After the line, the result is `shuffled` of the arguments. -/
theorem result_eq (V : Valuation τ sig (Elt F)) : after ops V (main_v9 : DevRef τ sig)
    = shuffled (V (main_arg0 : DevRef τ sig)) (V (main_arg1 : DevRef τ sig)) := by
  after_results
  rfl

/-- The line leaves the array as it was. -/
theorem array_eq (V : Valuation τ sig (Elt F)) : after ops V (main_arg0 : DevRef τ sig) = V (main_arg0 : DevRef τ sig) := by
  after_results

/-- The line leaves the table as it was. -/
theorem table_eq (V : Valuation τ sig (Elt F)) : after ops V (main_arg1 : DevRef τ sig) = V (main_arg1 : DevRef τ sig) := by
  after_results

/-- The reference has no buffer that is allocated for a while only. -/
theorem no_scoped_refs : (Finset.univ.filter fun b : Ref sig .tc => b.isScoped) = ∅ := by decide

/-- The reference has no semaphore that is allocated for a while only. -/
theorem no_scoped_sems : (Finset.univ.filter fun sm : SemLoc sig => sm.isScoped .tc) = ∅ := by decide

/-- Every operation of the line reads and writes the device's own buffers. -/
theorem ops_within : (ops : List (HloOp τ sig (Elt F))).Forall fun op => op.bufs ⊆ tcRefs τ sig :=
  ⟨nullary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub ..⟩

/-- From any memory with every counter at zero the reference ends, with its result at `shuffled` of its arguments, its
    arguments unchanged and every counter at zero. -/
theorem run_reference (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v9)
          = shuffled (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono
    (fun r h => ⟨fun c => ⟨(h c main_v9).trans (result_eq _), (h c main_arg0).trans (array_eq _),
      (h c main_arg1).trans (table_eq _)⟩, sem_eq_zero_of_no_sems (by decide) r.2⟩)
    (run_seq no_scoped_refs no_scoped_sems defs main (fun _ => ops) main_eq (fun _ => ops_within) m ρ)

/-! ## The order of a permutation's table -/

/-- Two places' words compare, as signed words, as the places do. -/
theorem word_before : ∀ a b : Fin 4, (IntOp.cmpi .slt (wordOf a) (wordOf b) == 1#1) = decide (a.val < b.val) := by decide

/-- No place's word is negative. -/
theorem word_not_negative : ∀ a : Fin 4, IntOp.cmpi .slt (wordOf a) 0#32 = 0#1 := by decide

/-- A place's word, read as a signed number, is the place. -/
theorem word_number : ∀ a : Fin 4, min (wordOf a).toInt.toNat 3 = a.val := by decide

/-- Sorting the places by where `σ` takes them lists, at `r`, the place it takes to `r`. -/
theorem sorted_place (σ : Places) (r : Fin 4) :
    sortedFrom (fun a b : Fin 4 => decide ((σ a).val < (σ b).val)) r = σ.symm r := by
  rw [Routing.sortedFrom_eq (fun a => (σ a).val) (fun a b h => σ.injective (Fin.ext h)) ((List.finRange 4).map σ.symm)
    (perm_map σ) (ascends σ) r (by simp)]
  simp
where
  perm_map (σ : Places) : ((List.finRange 4).map σ.symm).Perm (List.finRange 4) :=
    (List.perm_ext_iff_of_nodup ((List.nodup_finRange 4).map σ.symm.injective) (List.nodup_finRange 4)).mpr
      fun a => ⟨fun _ => List.mem_finRange a, fun _ => List.mem_map.mpr ⟨σ a, List.mem_finRange _, σ.symm_apply_apply a⟩⟩
  ascends (σ : Places) : ((List.finRange 4).map σ.symm).Pairwise fun a b => (σ a).val < (σ b).val :=
    List.pairwise_map.mpr ((List.pairwise_lt_finRange 4).imp fun h => by simpa using h)

/-- The order of `σ`'s table lists, at `k`, the place that `σ` takes to `k`. -/
theorem argsorted (σ : Places) : order (tableOf σ) = fun i => wordOf (σ.symm (i 0)) := by
  funext i
  have hb : (fun a b : Fin 4 => comparator_i32_i32_d0
        (tableOf σ (i.along (0 : Fin 1) a), iotaInDim S4 32 0 (i.along (0 : Fin 1) a))
        (tableOf σ (i.along (0 : Fin 1) b), iotaInDim S4 32 0 (i.along (0 : Fin 1) b)) == 1#1)
      = fun a b => decide ((σ a).val < (σ b).val) := by
    funext a b
    exact word_before (σ a) (σ b)
  have e : order (tableOf σ) i = wordOf (sortedFrom (fun a b : Fin 4 => comparator_i32_i32_d0
        (tableOf σ (i.along (0 : Fin 1) a), iotaInDim S4 32 0 (i.along (0 : Fin 1) a))
        (tableOf σ (i.along (0 : Fin 1) b), iotaInDim S4 32 0 (i.along (0 : Fin 1) b)) == 1#1) (i 0)) := rfl
  rw [e, hb]
  exact congrArg wordOf (sorted_place σ (i 0))

/-- Places counted from the start stay as they are. -/
theorem fromStart_words (p : Fin 4 → Fin 4) : fromStart (fun i => wordOf (p (i 0))) = fun i => wordOf (p (i 0)) := by
  funext i
  show (if IntOp.cmpi .slt (wordOf (p (i 0))) 0#32 = 1#1 then _ else _) = _
  rw [word_not_negative]
  rfl

/-- The index of the array whose first coordinate is `k` and whose others are `i`'s. -/
def moved (k : Fin 4) (i : S4x256x256.Idx) : S4x256x256.Idx := Function.update i (0 : Fin 3) k

/-- The entries that a list of places names, one by one. -/
theorem taken_words (x : FVec F S4x256x256 .bf16) (p : Fin 4 → Fin 4) (i : S4x256x256.Idx) :
    taken x (fun j => wordOf (p (j 0))) i = x (moved (p (i 0)) i) := by
  unfold taken Host.gather
  congr 1
  funext a
  apply Fin.ext
  fin_cases a
  · exact word_number (p (i 0))
  · show 0 + 0 + (i 1).val = (i 1).val
    omega
  · show 0 + 0 + (i 2).val = (i 2).val
    omega

end Cert.Shuffle.Ref

end
-- ==== Proof.Value.lean ====
/- What the kernel computes, against the reference, for any permutation.

   A condition of a claim is a comparison of each device's table with four words, true at all four positions. When the
   four words are those of a permutation (`IsTable`), it says that every device holds that permutation's table
   (`tabled_of`). The frame of the kernel, at any float values, and the agreement with the reference are each proved
   once, for any four such words; a claim about one permutation is an instance. -/
module

public import proofs.«01_k».proof.Proof.Launch
public import proofs.«01_k».proof.Proof.Reference
public import Idealize.ShloMosaic.Lib.Layout
public import Idealize.ShloMosaic.PureOps.Ideal

@[expose] public section

noncomputable section

namespace Cert.Shuffle

open Cert.KernelIdeal Cert.KernelIdeal.Gen
open Idealize.ShloMosaic Idealize.ShloMosaic.TcCoe Idealize.SL.Sem

variable {F : FTy → Type} [FloatOps F]

/-! ## The condition -/

/-- The place a word names. -/
def placeOf (w : BitVec 32) : Fin 4 := Fin.ofNat 4 w.toNat

/-- That four words are those of four places, no two alike. -/
def IsTable (words : Fin 4 → BitVec 32) : Prop :=
  (∀ k, words k = wordOf (placeOf (words k))) ∧ Function.Injective fun k => placeOf (words k)

instance (words : Fin 4 → BitVec 32) : Decidable (IsTable words) := by unfold IsTable; infer_instance

/-- The permutation that four words are the table of. -/
def permOf {words : Fin 4 → BitVec 32} (h : IsTable words) : Places :=
  Equiv.ofBijective (fun k => placeOf (words k)) (Finite.injective_iff_bijective.mp h.2)

/-- The one coordinate of an index of the table is its position. -/
theorem position (i : S4.Idx) : (S4.rowMajor i : Fin 4) = i 0 := Fin.ext (Shape.rowMajor_val_one (d := ![4]) i)

/-- Two tables that compare equal at every position are equal. -/
theorem eq_of_compares {s : Shape} {t u : IVec s 32} (h : cmpi .eq t u = fun _ => 1#1) : t = u := by
  funext i
  have hi : BitVec.ofBool (t i == u i) = 1#1 := congrFun h i
  cases hb : t i == u i
  · rw [hb] at hi; exact absurd hi (by decide)
  · exact eq_of_beq hb

/-- The condition on one program's memory: every device's table compares equal to the four words. -/
abbrev Holds (words : Fin 4 → BitVec 32) (m : Memory F) : Prop :=
  ∀ c : Dev nD, cmpi .eq (m ((c.tc : Thread nD τ).loc main_arg1) : IVec S4 32) (fun i => words (S4.rowMajor i)) = fun _ => 1#1

/-- Under the condition every device holds the table of the words' permutation. -/
theorem tabled_of {words : Fin 4 → BitVec 32} (h : IsTable words) {m : Memory F} (hm : Holds words m) :
    Tabled (permOf h) m := by
  intro c
  refine (eq_of_compares (hm c)).trans ?_
  funext i
  exact (congrArg words (position i)).trans (h.1 (i 0))

/-! ## The frame -/

/-- That, from a memory, the kernel ends with its arguments unchanged and every semaphore at zero. -/
abbrev Framed (m : Memory F) (ρ : Dev nD → PrngReg) : Prop :=
  θ_run defs (onTc (τ := τ) (main (F := F))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0

/-- Under the condition for a permutation's words the kernel ends, its arguments unchanged, every semaphore at zero. -/
theorem framed {words : Fin 4 → BitVec 32} (h : IsTable words) (m : Memory F) (ρ : Dev nD → PrngReg)
    (hm : Holds words m) : Framed m ρ :=
  (θ_run defs _ _).mono (fun _ hr => ⟨fun c => (hr.1 c).2, hr.2⟩) (runs (permOf h) m ρ (tabled_of h hm))

/-! ## The value -/

/-- Device `c`'s block of a whole array cut in four along the axis `y`. -/
abbrev blockAt {α : Type} (c : Dev nD) (x : (⟨3, ![4, 256, 256]⟩ : Shape).Idx → α) : (⟨3, ![1, 256, 256]⟩ : Shape).Idx → α :=
  Layout.blockN ⟨3, ![1, 256, 256]⟩ ⟨3, ![4, 256, 256]⟩ (Layout.meshBlock [2, 4, 4] ![[1], [], []] c) x

/-- The block of device `c` is the entry of the array at `c`'s place. -/
theorem blockAt_apply {α : Type} (c : Dev nD) (x : (⟨3, ![4, 256, 256]⟩ : Shape).Idx → α)
    (i : (⟨3, ![1, 256, 256]⟩ : Shape).Idx) (j : (⟨3, ![4, 256, 256]⟩ : Shape).Idx) (h0 : j 0 = place c)
    (h1 : (j 1).val = (i 1).val) (h2 : (j 2).val = (i 2).val) : blockAt c x i = x j := by
  refine congrArg x (funext fun a => Fin.ext ?_)
  fin_cases a
  · have hi : (i 0).val < 1 := (i 0).isLt
    have e : (j 0).val = c.val / 4 % 4 := congrArg Fin.val h0
    refine Eq.trans ?_ e.symm
    show ((c.val / 4 % 4) * 1 + 0) * 1 + (i 0).val = c.val / 4 % 4
    omega
  · exact (Nat.zero_add _).trans h1.symm
  · exact (Nat.zero_add _).trans h2.symm

/-- The reference's result for the table of `σ`, at an index: the array's entry at the place that `σ` takes to it. -/
theorem shuffled_apply (σ : Places) (x : FVec Ideal ⟨3, ![4, 256, 256]⟩ .bf16) (j : (⟨3, ![4, 256, 256]⟩ : Shape).Idx) :
    Ref.shuffled x (tableOf σ) j = x (Ref.moved (σ.symm (j 0)) j) := by
  have e : Ref.shuffled x (tableOf σ) j = Ref.taken x (Ref.fromStart (Ref.order (tableOf σ))) j := rfl
  rw [e, Ref.argsorted, Ref.fromStart_words]
  exact Ref.taken_words x σ.symm j

/-- Device `c`'s block of the reference's result is the block, of the array, of the device it receives from. -/
theorem block_shuffled (σ : Places) (x : FVec Ideal ⟨3, ![4, 256, 256]⟩ .bf16) (c : Dev nD) :
    blockAt c (Ref.shuffled x (tableOf σ)) = blockAt (goes σ.symm c) x := by
  funext i
  let j : (⟨3, ![4, 256, 256]⟩ : Shape).Idx := fun | 0 => place c | 1 => i 1 | 2 => i 2
  rw [blockAt_apply c _ i j rfl rfl rfl, shuffled_apply]
  exact (blockAt_apply (goes σ.symm c) x i (Ref.moved (σ.symm (place c)) j) (place_goes σ.symm c).symm rfl rfl).symm

/-- The reference's memory. -/
abbrev RefMemory : Type := (ℓ : Loc Cert.ReferenceIdeal.nD Cert.ReferenceIdeal.τ Cert.ReferenceIdeal.sig) → Buf (Elt Ideal) ℓ

/-- The array the reference's one device starts with. -/
abbrev wholeArray (m' : RefMemory) : FVec Ideal ⟨3, ![4, 256, 256]⟩ .bf16 :=
  m' (((0 : Dev Cert.ReferenceIdeal.nD).tc : Thread Cert.ReferenceIdeal.nD Cert.ReferenceIdeal.τ).loc Cert.ReferenceIdeal.main_arg0)
/-- The table the reference's one device starts with. -/
abbrev wholeTable (m' : RefMemory) : IVec ⟨1, ![4]⟩ 32 :=
  m' (((0 : Dev Cert.ReferenceIdeal.nD).tc : Thread Cert.ReferenceIdeal.nD Cert.ReferenceIdeal.τ).loc Cert.ReferenceIdeal.main_arg1)

/-- That the kernel starts with its blocks of the reference's array, and with the reference's table on every device. -/
abbrev Agree (m : Memory Ideal) (m' : RefMemory) : Prop :=
  ∀ c : Dev nD, m ((c.tc : Thread nD τ).loc main_arg0) = blockAt c (wholeArray m')
    ∧ m ((c.tc : Thread nD τ).loc main_arg1) = wholeTable m'

/-- That the two programs end with one result: the kernel's devices hold the blocks of what the reference holds. -/
abbrev Equal (m : Memory Ideal) (ρ : Dev nD → PrngReg) (m' : RefMemory) (ρ' : Dev Cert.ReferenceIdeal.nD → PrngReg) : Prop :=
  ∃ v : FVec Ideal ⟨3, ![4, 256, 256]⟩ .bf16,
    θ_run (defs (F := Ideal)) (onTc (τ := τ) (main (F := Ideal))) ⟨m, fun _ => 0, ρ⟩ (fun r => ∀ c : Dev nD,
        r.2.mem ((c.tc : Thread nD τ).loc main_v1) = blockAt c v
        ∧ r.2.mem ((c.tc : Thread nD τ).loc main_arg0) = m ((c.tc : Thread nD τ).loc main_arg0)
        ∧ r.2.mem ((c.tc : Thread nD τ).loc main_arg1) = m ((c.tc : Thread nD τ).loc main_arg1))
    ∧ θ_run (Cert.ReferenceIdeal.defs (F := Ideal)) (onTc (τ := Cert.ReferenceIdeal.τ) (Cert.ReferenceIdeal.main (F := Ideal)))
      ⟨m', fun _ => 0, ρ'⟩ (fun r =>
        r.2.mem (((0 : Dev Cert.ReferenceIdeal.nD).tc : Thread Cert.ReferenceIdeal.nD Cert.ReferenceIdeal.τ).loc Cert.ReferenceIdeal.main_v9) = v
        ∧ r.2.mem (((0 : Dev Cert.ReferenceIdeal.nD).tc : Thread Cert.ReferenceIdeal.nD Cert.ReferenceIdeal.τ).loc Cert.ReferenceIdeal.main_arg0) = wholeArray m'
        ∧ r.2.mem (((0 : Dev Cert.ReferenceIdeal.nD).tc : Thread Cert.ReferenceIdeal.nD Cert.ReferenceIdeal.τ).loc Cert.ReferenceIdeal.main_arg1) = wholeTable m')

/-- What a device receives is its block of the reference's result. -/
theorem arrives_eq {σ : Places} {m : Memory Ideal} {m' : RefMemory} (hT : Tabled σ m) (ha : Agree m m') (c : Dev nD) :
    arrives σ m c = blockAt c (Ref.shuffled (wholeArray m') (wholeTable m')) := by
  rw [show wholeTable m' = tableOf σ from (ha c).2.symm.trans (hT c), block_shuffled]
  exact (ha (goes σ.symm c)).1

/-- Under the condition for a permutation's words, and from arguments that agree, the two programs end with one result. -/
theorem equal {words : Fin 4 → BitVec 32} (h : IsTable words) (m : Memory Ideal) (ρ : Dev nD → PrngReg) (m' : RefMemory)
    (ρ' : Dev Cert.ReferenceIdeal.nD → PrngReg) (hm : Holds words m) (ha : Agree m m') : Equal m ρ m' ρ' :=
  ⟨Ref.shuffled (wholeArray m') (wholeTable m'),
    (θ_run defs _ _).mono (fun _ hr c => ⟨(hr.1 c).1.trans (arrives_eq (tabled_of h hm) ha c), (hr.1 c).2⟩)
      (runs (permOf h) m ρ (tabled_of h hm)),
    (θ_run Cert.ReferenceIdeal.defs _ _).mono (fun _ hr => hr.1 0) (Ref.run_reference m' ρ')⟩

/-- The reference ends, its arguments unchanged, every semaphore at zero, whatever condition a claim puts on it. -/
theorem framed_reference (condition : RefMemory → Prop) (m : RefMemory) (ρ : Dev Cert.ReferenceIdeal.nD → PrngReg)
    (_ : condition m) :
    θ_run (Cert.ReferenceIdeal.defs (F := Ideal)) (onTc (τ := Cert.ReferenceIdeal.τ) (Cert.ReferenceIdeal.main (F := Ideal)))
      ⟨m, fun _ => 0, ρ⟩ fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
      ∧ r.2.sem = fun _ => 0 :=
  (θ_run Cert.ReferenceIdeal.defs _ _).mono (fun _ hr => ⟨fun c => (hr.1 c).2, hr.2⟩) (Ref.run_reference m ρ)

end Cert.Shuffle

end
-- ==== Proof.lean ====
module

public import proofs.«01_k».proof.Defs
public import proofs.«01_k».proof.Proof.Value
public import proofs.«01_k».proof.Proof.Gen.Kernel
public import proofs.«01_k».proof.Proof.Gen.Pre_table_0123_Kernel
public import proofs.«01_k».proof.Proof.Gen.Pre_table_0132_Kernel
public import proofs.«01_k».proof.Proof.Gen.Pre_table_0213_Kernel
public import proofs.«01_k».proof.Proof.Gen.Pre_table_0231_Kernel
public import proofs.«01_k».proof.Proof.Gen.Pre_table_0312_Kernel
public import proofs.«01_k».proof.Proof.Gen.Pre_table_0321_Kernel
public import proofs.«01_k».proof.Proof.Gen.Pre_table_1023_Kernel
public import proofs.«01_k».proof.Proof.Gen.Pre_table_1032_Kernel
public import proofs.«01_k».proof.Proof.Gen.Pre_table_1203_Kernel
public import proofs.«01_k».proof.Proof.Gen.Pre_table_1230_Kernel
public import proofs.«01_k».proof.Proof.Gen.Pre_table_1302_Kernel
public import proofs.«01_k».proof.Proof.Gen.Pre_table_1320_Kernel
public import proofs.«01_k».proof.Proof.Gen.Pre_table_2013_Kernel
public import proofs.«01_k».proof.Proof.Gen.Pre_table_2031_Kernel
public import proofs.«01_k».proof.Proof.Gen.Pre_table_2103_Kernel
public import proofs.«01_k».proof.Proof.Gen.Pre_table_2130_Kernel
public import proofs.«01_k».proof.Proof.Gen.Pre_table_2301_Kernel
public import proofs.«01_k».proof.Proof.Gen.Pre_table_2310_Kernel
public import proofs.«01_k».proof.Proof.Gen.Pre_table_3012_Kernel
public import proofs.«01_k».proof.Proof.Gen.Pre_table_3021_Kernel
public import proofs.«01_k».proof.Proof.Gen.Pre_table_3102_Kernel
public import proofs.«01_k».proof.Proof.Gen.Pre_table_3120_Kernel
public import proofs.«01_k».proof.Proof.Gen.Pre_table_3201_Kernel
public import proofs.«01_k».proof.Proof.Gen.Pre_table_3210_Kernel
public import proofs.«01_k».proof.Proof.Gen.Pre_table_0123_ReferenceIdeal
public import proofs.«01_k».proof.Proof.Gen.Pre_table_0132_ReferenceIdeal
public import proofs.«01_k».proof.Proof.Gen.Pre_table_0213_ReferenceIdeal
public import proofs.«01_k».proof.Proof.Gen.Pre_table_0231_ReferenceIdeal
public import proofs.«01_k».proof.Proof.Gen.Pre_table_0312_ReferenceIdeal
public import proofs.«01_k».proof.Proof.Gen.Pre_table_0321_ReferenceIdeal
public import proofs.«01_k».proof.Proof.Gen.Pre_table_1023_ReferenceIdeal
public import proofs.«01_k».proof.Proof.Gen.Pre_table_1032_ReferenceIdeal
public import proofs.«01_k».proof.Proof.Gen.Pre_table_1203_ReferenceIdeal
public import proofs.«01_k».proof.Proof.Gen.Pre_table_1230_ReferenceIdeal
public import proofs.«01_k».proof.Proof.Gen.Pre_table_1302_ReferenceIdeal
public import proofs.«01_k».proof.Proof.Gen.Pre_table_1320_ReferenceIdeal
public import proofs.«01_k».proof.Proof.Gen.Pre_table_2013_ReferenceIdeal
public import proofs.«01_k».proof.Proof.Gen.Pre_table_2031_ReferenceIdeal
public import proofs.«01_k».proof.Proof.Gen.Pre_table_2103_ReferenceIdeal
public import proofs.«01_k».proof.Proof.Gen.Pre_table_2130_ReferenceIdeal
public import proofs.«01_k».proof.Proof.Gen.Pre_table_2301_ReferenceIdeal
public import proofs.«01_k».proof.Proof.Gen.Pre_table_2310_ReferenceIdeal
public import proofs.«01_k».proof.Proof.Gen.Pre_table_3012_ReferenceIdeal
public import proofs.«01_k».proof.Proof.Gen.Pre_table_3021_ReferenceIdeal
public import proofs.«01_k».proof.Proof.Gen.Pre_table_3102_ReferenceIdeal
public import proofs.«01_k».proof.Proof.Gen.Pre_table_3120_ReferenceIdeal
public import proofs.«01_k».proof.Proof.Gen.Pre_table_3201_ReferenceIdeal
public import proofs.«01_k».proof.Proof.Gen.Pre_table_3210_ReferenceIdeal

@[expose] public section

noncomputable section

namespace Cert.Proof

open Idealize.ShloMosaic Idealize.SL.Sem Cert.Shuffle

/-- The two programs' kernels are one. -/
theorem same_bodies : Cert.Kernel.defs₀ (F := Bits) = Cert.KernelIdeal.defs₀ (F := Bits) := by
  unfold Cert.Kernel.defs₀ Cert.KernelIdeal.defs₀
  refine congrArg Defs.onTc (funext fun ℓ => funext fun x => ?_)
  match ℓ, x with
  | ⟨0, _⟩, (_, _) => rfl

/-- The two programs' tables of functions are one. -/
theorem same_defs : Cert.Kernel.defs (F := Bits) = Cert.KernelIdeal.defs (F := Bits) :=
  congrArg (Pipeline.defs Cert.KernelIdeal.pcfgs) same_bodies

/-- The program as written ends with its arguments unchanged and every semaphore at zero, under a permutation's
    condition: it has the idealized program's text, so this is that program's run at machine words. -/
theorem framed_kernel {words : Fin 4 → BitVec 32} (h : IsTable words)
    (m : (ℓ : Loc Cert.Kernel.nD Cert.Kernel.τ Cert.Kernel.sig) → Buf (Elt Bits) ℓ) (ρ : Dev Cert.Kernel.nD → PrngReg)
    (hm : Holds (F := Bits) words m) :
    θ_run (Cert.Kernel.defs (F := Bits)) (onTc (τ := Cert.Kernel.τ) (Cert.Kernel.main (F := Bits))) ⟨m, fun _ => 0, ρ⟩
      fun r => (∀ c : Dev Cert.Kernel.nD,
        r.2.mem ((c.tc : Thread Cert.Kernel.nD Cert.Kernel.τ).loc Cert.Kernel.main_arg0)
          = m ((c.tc : Thread Cert.Kernel.nD Cert.Kernel.τ).loc Cert.Kernel.main_arg0)
        ∧ r.2.mem ((c.tc : Thread Cert.Kernel.nD Cert.Kernel.τ).loc Cert.Kernel.main_arg1)
          = m ((c.tc : Thread Cert.Kernel.nD Cert.Kernel.τ).loc Cert.Kernel.main_arg1))
      ∧ r.2.sem = fun _ => 0 := by
  rw [same_defs]
  exact framed (F := Bits) h m ρ hm

/-- Every claim of the certificate: the facts the programs state; the frames of the kernel as written, of the idealized
    kernel and of the reference, one for each condition; that no rewrite was made; and the agreement with the reference,
    one for each permutation. -/
theorem claim : Cert.Claim :=
  ⟨inferInstance, inferInstance, inferInstance, inferInstance, inferInstance, inferInstance, inferInstance, inferInstance,
    inferInstance, inferInstance, inferInstance, inferInstance, inferInstance, inferInstance, inferInstance, inferInstance,
    inferInstance, inferInstance, inferInstance, inferInstance, inferInstance, inferInstance, inferInstance, inferInstance,
    inferInstance, inferInstance, inferInstance, inferInstance, inferInstance, inferInstance, inferInstance, inferInstance,
    inferInstance, inferInstance, inferInstance, inferInstance, inferInstance, inferInstance, inferInstance, inferInstance,
    inferInstance, inferInstance, inferInstance, inferInstance, inferInstance, inferInstance, inferInstance, inferInstance,
    inferInstance, inferInstance, inferInstance,
    framed_kernel (by decide), framed_kernel (by decide), framed_kernel (by decide), framed_kernel (by decide),
    framed_kernel (by decide), framed_kernel (by decide), framed_kernel (by decide), framed_kernel (by decide),
    framed_kernel (by decide), framed_kernel (by decide), framed_kernel (by decide), framed_kernel (by decide),
    framed_kernel (by decide), framed_kernel (by decide), framed_kernel (by decide), framed_kernel (by decide),
    framed_kernel (by decide), framed_kernel (by decide), framed_kernel (by decide), framed_kernel (by decide),
    framed_kernel (by decide), framed_kernel (by decide), framed_kernel (by decide), framed_kernel (by decide),
    framed (by decide), framed (by decide), framed (by decide), framed (by decide), framed (by decide), framed (by decide),
    framed (by decide), framed (by decide), framed (by decide), framed (by decide), framed (by decide), framed (by decide),
    framed (by decide), framed (by decide), framed (by decide), framed (by decide), framed (by decide), framed (by decide),
    framed (by decide), framed (by decide), framed (by decide), framed (by decide), framed (by decide), framed (by decide),
    framed_reference _, framed_reference _, framed_reference _, framed_reference _, framed_reference _,
    framed_reference _, framed_reference _, framed_reference _, framed_reference _, framed_reference _,
    framed_reference _, framed_reference _, framed_reference _, framed_reference _, framed_reference _,
    framed_reference _, framed_reference _, framed_reference _, framed_reference _, framed_reference _,
    framed_reference _, framed_reference _, framed_reference _, framed_reference _, framed_reference _,
    trivial,
    equal (by decide), equal (by decide), equal (by decide), equal (by decide), equal (by decide), equal (by decide),
    equal (by decide), equal (by decide), equal (by decide), equal (by decide), equal (by decide), equal (by decide),
    equal (by decide), equal (by decide), equal (by decide), equal (by decide), equal (by decide), equal (by decide),
    equal (by decide), equal (by decide), equal (by decide), equal (by decide), equal (by decide), equal (by decide)⟩

end Cert.Proof

end
